-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_regular_with_inverses [hPre_regular_with_inverses : Cert.Pre_regular_with_inverses.Facts] (m : (ℓ : Loc Cert.KernelIdeal.nD Cert.KernelIdeal.τ Cert.KernelIdeal.sig) → Buf (Elt Ideal) ℓ) : Prop :=
  ∀ c : Dev Cert.KernelIdeal.nD,
    (Cert.Pre_regular_with_inverses.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_regular_with_inverses [hPre_regular_with_inverses : Cert.Pre_regular_with_inverses.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_regular_with_inverses.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_regular_with_inverses [hKernelIdeal : Cert.KernelIdeal.Facts] [hPre_regular_with_inverses : Cert.Pre_regular_with_inverses.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_regular_with_inverses m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_regular_with_inverses [hReferenceIdeal : Cert.ReferenceIdeal.Facts] [hPre_regular_with_inverses : Cert.Pre_regular_with_inverses.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_regular_with_inverses m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_regular_with_inverses [hKernelIdeal : Cert.KernelIdeal.Facts] [hReferenceIdeal : Cert.ReferenceIdeal.Facts] [hPre_regular_with_inverses : Cert.Pre_regular_with_inverses.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_regular_with_inverses m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_v38) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_regular_with_inverses : Cert.Pre_regular_with_inverses.Facts),
    quiescent_Kernel (hKernel := hKernel)
    ∧ quiescent_KernelIdeal (hKernelIdeal := hKernelIdeal)
    ∧ quiescent_KernelIdeal_pre_regular_with_inverses (hKernelIdeal := hKernelIdeal) (hPre_regular_with_inverses := hPre_regular_with_inverses)
    ∧ quiescent_ReferenceIdeal (hReferenceIdeal := hReferenceIdeal)
    ∧ quiescent_ReferenceIdeal_pre_regular_with_inverses (hReferenceIdeal := hReferenceIdeal) (hPre_regular_with_inverses := hPre_regular_with_inverses)
    ∧ preserves_Kernel_KernelIdeal
    ∧ algebraic_KernelIdeal_ReferenceIdeal_pre_regular_with_inverses (hKernelIdeal := hKernelIdeal) (hReferenceIdeal := hReferenceIdeal) (hPre_regular_with_inverses := hPre_regular_with_inverses)
-- ==== Pre_regular_with_inverses.lean ====
abbrev S5x384x2560 : Shape := ⟨3, ![5, 384, 2560]⟩
abbrev S5x384x1280 : Shape := ⟨3, ![5, 384, 1280]⟩
abbrev S5x20x256x2 : Shape := ⟨4, ![5, 20, 256, 2]⟩
abbrev S2560x2560 : Shape := ⟨2, ![2560, 2560]⟩
abbrev S10x256x256 : Shape := ⟨3, ![10, 256, 256]⟩
abbrev S_ : Shape := ⟨0, ![]⟩
abbrev S256x256 : Shape := ⟨2, ![256, 256]⟩
abbrev S1x256x256 : Shape := ⟨3, ![1, 256, 256]⟩

class Facts : Prop where
  bitsLt_bf16_f32 : FTy.bits .bf16 < FTy.bits .f32
  bcast_S_S5x384x2560 : S_.BroadcastsInDim S5x384x2560 (![] : Fin 0 → Fin S5x384x2560.rank)
  reducesTo_S5x384x2560_S_d0_1_2 : S5x384x2560.ReducesTo [0, 1, 2] S_
  h_S_ : 0 < S_.numel
  bcast_S_S5x20x256x2 : S_.BroadcastsInDim S5x20x256x2 (![] : Fin 0 → Fin S5x20x256x2.rank)
  reducesTo_S5x20x256x2_S_d0_1_2_3 : S5x20x256x2.ReducesTo [0, 1, 2, 3] S_
  bcast_S_S2560x2560 : S_.BroadcastsInDim S2560x2560 (![] : Fin 0 → Fin S2560x2560.rank)
  reducesTo_S2560x2560_S_d0_1 : S2560x2560.ReducesTo [0, 1] S_
  bcast_S_S10x256x256 : S_.BroadcastsInDim S10x256x256 (![] : Fin 0 → Fin S10x256x256.rank)
  reducesTo_S10x256x256_S_d0_1_2 : S10x256x256.ReducesTo [0, 1, 2] S_
  bcast_S_S256x256 : S_.BroadcastsInDim S256x256 (![] : Fin 0 → Fin S256x256.rank)
  slices_S2560x2560_S256x256_0_0 : S2560x2560.Slices ![0, 0] S256x256
  slices_S10x256x256_S1x256x256_0_0_0 : S10x256x256.Slices ![0, 0, 0] S1x256x256
  shapeCasts_S1x256x256_S256x256 : S1x256x256.ShapeCasts S256x256
  reducesTo_S256x256_S_d0_1 : S256x256.ReducesTo [0, 1] S_
  slices_S2560x2560_S256x256_256_256 : S2560x2560.Slices ![256, 256] S256x256
  slices_S10x256x256_S1x256x256_1_0_0 : S10x256x256.Slices ![1, 0, 0] S1x256x256
  slices_S2560x2560_S256x256_512_512 : S2560x2560.Slices ![512, 512] S256x256
  slices_S10x256x256_S1x256x256_2_0_0 : S10x256x256.Slices ![2, 0, 0] S1x256x256
  slices_S2560x2560_S256x256_768_768 : S2560x2560.Slices ![768, 768] S256x256
  slices_S10x256x256_S1x256x256_3_0_0 : S10x256x256.Slices ![3, 0, 0] S1x256x256
  slices_S2560x2560_S256x256_1024_1024 : S2560x2560.Slices ![1024, 1024] S256x256
  slices_S10x256x256_S1x256x256_4_0_0 : S10x256x256.Slices ![4, 0, 0] S1x256x256
  slices_S2560x2560_S256x256_1280_1280 : S2560x2560.Slices ![1280, 1280] S256x256
  slices_S10x256x256_S1x256x256_5_0_0 : S10x256x256.Slices ![5, 0, 0] S1x256x256
  slices_S2560x2560_S256x256_1536_1536 : S2560x2560.Slices ![1536, 1536] S256x256
  slices_S10x256x256_S1x256x256_6_0_0 : S10x256x256.Slices ![6, 0, 0] S1x256x256
  slices_S2560x2560_S256x256_1792_1792 : S2560x2560.Slices ![1792, 1792] S256x256
  slices_S10x256x256_S1x256x256_7_0_0 : S10x256x256.Slices ![7, 0, 0] S1x256x256
  slices_S2560x2560_S256x256_2048_2048 : S2560x2560.Slices ![2048, 2048] S256x256
  slices_S10x256x256_S1x256x256_8_0_0 : S10x256x256.Slices ![8, 0, 0] S1x256x256
  slices_S2560x2560_S256x256_2304_2304 : S2560x2560.Slices ![2304, 2304] S256x256
  slices_S10x256x256_S1x256x256_9_0_0 : S10x256x256.Slices ![9, 0, 0] S1x256x256
  dot_S256x256_S256x256_S256x256_1_0_0_1_n_n_wf : DotDims.WF S256x256 S256x256 S256x256 [1] [0] [0] [1] [] []

variable [Facts]

def dot_S256x256_S256x256_S256x256_1_0_0_1_n_n : DotDims S256x256 S256x256 S256x256 where
  lhsContracting := [1]
  rhsContracting := [0]
  lhsNonContracting := [0]
  rhsNonContracting := [1]
  lhsBatch := []
  rhsBatch := []
  wf := dot_S256x256_S256x256_S256x256_1_0_0_1_n_n_wf
def fn_where {F : FTy → Type} [FloatOps F] (arg0 : IVec S2560x2560 1) (arg1 : FVec F S2560x2560 .f32) (arg2 : FVec F S_ .f32) : FVec F S2560x2560 .f32 :=
  let v0 : FVec F S_ .f32 := id arg2
  let v1 : FVec F S2560x2560 .f32 := broadcastInDim S2560x2560 ![] bcast_S_S2560x2560 v0
  let v2 : FVec F S2560x2560 .f32 := select arg0 arg1 v1
  v2

def fn_where_0 {F : FTy → Type} [FloatOps F] (arg0 : IVec S256x256 1) (arg1 : FVec F S_ .f32) (arg2 : FVec F S_ .f32) : FVec F S256x256 .f32 :=
  let v0 : FVec F S256x256 .f32 := broadcastInDim S256x256 ![] bcast_S_S256x256 arg1
  let v1 : FVec F S256x256 .f32 := broadcastInDim S256x256 ![] bcast_S_S256x256 arg2
  let v2 : FVec F S256x256 .f32 := select arg0 v0 v1
  v2

def fn_part5 {F : FTy → Type} [FloatOps F] (main_arg4 : FVec F S10x256x256 .f32) (main_v33 : FVec F S2560x2560 .f32) (main_v37 : FVec F S256x256 .f32) (main_v93 : IVec S_ 1) (main_v99 : IVec S256x256 1) : IVec S_ 1 :=
  let main_c_18 : IVec S_ 1 := constantI S_ 1 1#1
  let main_v100 : IVec S_ 1 := (fun x v => Host.reduce IntOp.andi x v reducesTo_S256x256_S_d0_1 h_S_) main_v99 main_c_18
  let main_v101 : IVec S_ 1 := andi main_v93 main_v100
  let main_v102 : FVec F S256x256 .f32 := (extractStridedSlice S256x256 ![2048, 2048] · slices_S2560x2560_S256x256_2048_2048) main_v33
  let main_v103 : FVec F S1x256x256 .f32 := (extractStridedSlice S1x256x256 ![8, 0, 0] · slices_S10x256x256_S1x256x256_8_0_0) main_arg4
  let main_v104 : FVec F S256x256 .f32 := shapeCast S256x256 main_v103 shapeCasts_S1x256x256_S256x256
  let main_v105 : FVec F S256x256 .f32 := (fun l r => Host.dotGeneral dot_S256x256_S256x256_S256x256_1_0_0_1_n_n (some .fp32) l r) main_v102 main_v104
  let main_v106 : FVec F S256x256 .f32 := id main_v37
  let main_v107 : IVec S256x256 1 := cmpf .oeq main_v105 main_v106
  let main_c_19 : IVec S_ 1 := constantI S_ 1 1#1
  let main_v108 : IVec S_ 1 := (fun x v => Host.reduce IntOp.andi x v reducesTo_S256x256_S_d0_1 h_S_) main_v107 main_c_19
  let main_v109 : IVec S_ 1 := andi main_v101 main_v108
  let main_v110 : FVec F S256x256 .f32 := (extractStridedSlice S256x256 ![2304, 2304] · slices_S2560x2560_S256x256_2304_2304) main_v33
  let main_v111 : FVec F S1x256x256 .f32 := (extractStridedSlice S1x256x256 ![9, 0, 0] · slices_S10x256x256_S1x256x256_9_0_0) main_arg4
  let main_v112 : FVec F S256x256 .f32 := shapeCast S256x256 main_v111 shapeCasts_S1x256x256_S256x256
  let main_v113 : FVec F S256x256 .f32 := (fun l r => Host.dotGeneral dot_S256x256_S256x256_S256x256_1_0_0_1_n_n (some .fp32) l r) main_v110 main_v112
  let main_v114 : FVec F S256x256 .f32 := id main_v37
  let main_v115 : IVec S256x256 1 := cmpf .oeq main_v113 main_v114
  let main_c_20 : IVec S_ 1 := constantI S_ 1 1#1
  let main_v116 : IVec S_ 1 := (fun x v => Host.reduce IntOp.andi x v reducesTo_S256x256_S_d0_1 h_S_) main_v115 main_c_20
  let main_v117 : IVec S_ 1 := andi main_v109 main_v116
  main_v117

def fn_part4 {F : FTy → Type} [FloatOps F] (main_arg4 : FVec F S10x256x256 .f32) (main_v33 : FVec F S2560x2560 .f32) (main_v37 : FVec F S256x256 .f32) (main_v77 : IVec S_ 1) : IVec S_ 1 :=
  let main_v78 : FVec F S256x256 .f32 := (extractStridedSlice S256x256 ![1280, 1280] · slices_S2560x2560_S256x256_1280_1280) main_v33
  let main_v79 : FVec F S1x256x256 .f32 := (extractStridedSlice S1x256x256 ![5, 0, 0] · slices_S10x256x256_S1x256x256_5_0_0) main_arg4
  let main_v80 : FVec F S256x256 .f32 := shapeCast S256x256 main_v79 shapeCasts_S1x256x256_S256x256
  let main_v81 : FVec F S256x256 .f32 := (fun l r => Host.dotGeneral dot_S256x256_S256x256_S256x256_1_0_0_1_n_n (some .fp32) l r) main_v78 main_v80
  let main_v82 : FVec F S256x256 .f32 := id main_v37
  let main_v83 : IVec S256x256 1 := cmpf .oeq main_v81 main_v82
  let main_c_16 : IVec S_ 1 := constantI S_ 1 1#1
  let main_v84 : IVec S_ 1 := (fun x v => Host.reduce IntOp.andi x v reducesTo_S256x256_S_d0_1 h_S_) main_v83 main_c_16
  let main_v85 : IVec S_ 1 := andi main_v77 main_v84
  let main_v86 : FVec F S256x256 .f32 := (extractStridedSlice S256x256 ![1536, 1536] · slices_S2560x2560_S256x256_1536_1536) main_v33
  let main_v87 : FVec F S1x256x256 .f32 := (extractStridedSlice S1x256x256 ![6, 0, 0] · slices_S10x256x256_S1x256x256_6_0_0) main_arg4
  let main_v88 : FVec F S256x256 .f32 := shapeCast S256x256 main_v87 shapeCasts_S1x256x256_S256x256
  let main_v89 : FVec F S256x256 .f32 := (fun l r => Host.dotGeneral dot_S256x256_S256x256_S256x256_1_0_0_1_n_n (some .fp32) l r) main_v86 main_v88
  let main_v90 : FVec F S256x256 .f32 := id main_v37
  let main_v91 : IVec S256x256 1 := cmpf .oeq main_v89 main_v90
  let main_c_17 : IVec S_ 1 := constantI S_ 1 1#1
  let main_v92 : IVec S_ 1 := (fun x v => Host.reduce IntOp.andi x v reducesTo_S256x256_S_d0_1 h_S_) main_v91 main_c_17
  let main_v93 : IVec S_ 1 := andi main_v85 main_v92
  let main_v94 : FVec F S256x256 .f32 := (extractStridedSlice S256x256 ![1792, 1792] · slices_S2560x2560_S256x256_1792_1792) main_v33
  let main_v95 : FVec F S1x256x256 .f32 := (extractStridedSlice S1x256x256 ![7, 0, 0] · slices_S10x256x256_S1x256x256_7_0_0) main_arg4
  let main_v96 : FVec F S256x256 .f32 := shapeCast S256x256 main_v95 shapeCasts_S1x256x256_S256x256
  let main_v97 : FVec F S256x256 .f32 := (fun l r => Host.dotGeneral dot_S256x256_S256x256_S256x256_1_0_0_1_n_n (some .fp32) l r) main_v94 main_v96
  let main_v98 : FVec F S256x256 .f32 := id main_v37
  let main_v99 : IVec S256x256 1 := cmpf .oeq main_v97 main_v98
  fn_part5 (F := F) main_arg4 main_v33 main_v37 main_v93 main_v99

def fn_part3 {F : FTy → Type} [FloatOps F] (main_arg4 : FVec F S10x256x256 .f32) (main_v33 : FVec F S2560x2560 .f32) (main_v37 : FVec F S256x256 .f32) (main_v53 : IVec S_ 1) (main_v54 : FVec F S256x256 .f32) (main_v56 : FVec F S256x256 .f32) : IVec S_ 1 :=
  let main_v57 : FVec F S256x256 .f32 := (fun l r => Host.dotGeneral dot_S256x256_S256x256_S256x256_1_0_0_1_n_n (some .fp32) l r) main_v54 main_v56
  let main_v58 : FVec F S256x256 .f32 := id main_v37
  let main_v59 : IVec S256x256 1 := cmpf .oeq main_v57 main_v58
  let main_c_13 : IVec S_ 1 := constantI S_ 1 1#1
  let main_v60 : IVec S_ 1 := (fun x v => Host.reduce IntOp.andi x v reducesTo_S256x256_S_d0_1 h_S_) main_v59 main_c_13
  let main_v61 : IVec S_ 1 := andi main_v53 main_v60
  let main_v62 : FVec F S256x256 .f32 := (extractStridedSlice S256x256 ![768, 768] · slices_S2560x2560_S256x256_768_768) main_v33
  let main_v63 : FVec F S1x256x256 .f32 := (extractStridedSlice S1x256x256 ![3, 0, 0] · slices_S10x256x256_S1x256x256_3_0_0) main_arg4
  let main_v64 : FVec F S256x256 .f32 := shapeCast S256x256 main_v63 shapeCasts_S1x256x256_S256x256
  let main_v65 : FVec F S256x256 .f32 := (fun l r => Host.dotGeneral dot_S256x256_S256x256_S256x256_1_0_0_1_n_n (some .fp32) l r) main_v62 main_v64
  let main_v66 : FVec F S256x256 .f32 := id main_v37
  let main_v67 : IVec S256x256 1 := cmpf .oeq main_v65 main_v66
  let main_c_14 : IVec S_ 1 := constantI S_ 1 1#1
  let main_v68 : IVec S_ 1 := (fun x v => Host.reduce IntOp.andi x v reducesTo_S256x256_S_d0_1 h_S_) main_v67 main_c_14
  let main_v69 : IVec S_ 1 := andi main_v61 main_v68
  let main_v70 : FVec F S256x256 .f32 := (extractStridedSlice S256x256 ![1024, 1024] · slices_S2560x2560_S256x256_1024_1024) main_v33
  let main_v71 : FVec F S1x256x256 .f32 := (extractStridedSlice S1x256x256 ![4, 0, 0] · slices_S10x256x256_S1x256x256_4_0_0) main_arg4
  let main_v72 : FVec F S256x256 .f32 := shapeCast S256x256 main_v71 shapeCasts_S1x256x256_S256x256
  let main_v73 : FVec F S256x256 .f32 := (fun l r => Host.dotGeneral dot_S256x256_S256x256_S256x256_1_0_0_1_n_n (some .fp32) l r) main_v70 main_v72
  let main_v74 : FVec F S256x256 .f32 := id main_v37
  let main_v75 : IVec S256x256 1 := cmpf .oeq main_v73 main_v74
  let main_c_15 : IVec S_ 1 := constantI S_ 1 1#1
  let main_v76 : IVec S_ 1 := (fun x v => Host.reduce IntOp.andi x v reducesTo_S256x256_S_d0_1 h_S_) main_v75 main_c_15
  let main_v77 : IVec S_ 1 := andi main_v69 main_v76
  fn_part4 (F := F) main_arg4 main_v33 main_v37 main_v77

def fn_part2 {F : FTy → Type} [FloatOps F] (main_arg4 : FVec F S10x256x256 .f32) (main_v31 : IVec S_ 1) (main_v33 : FVec F S2560x2560 .f32) (main_v36 : IVec S256x256 1) : IVec S_ 1 :=
  let main_cst_9 : FVec F S_ .f32 := constant S_ .f32 0x3F800000#32
  let main_cst_10 : FVec F S_ .f32 := constant S_ .f32 0x00000000#32
  let main_v37 : FVec F S256x256 .f32 := fn_where_0 (F := F) main_v36 main_cst_9 main_cst_10
  let main_v38 : FVec F S256x256 .f32 := (extractStridedSlice S256x256 ![0, 0] · slices_S2560x2560_S256x256_0_0) main_v33
  let main_v39 : FVec F S1x256x256 .f32 := (extractStridedSlice S1x256x256 ![0, 0, 0] · slices_S10x256x256_S1x256x256_0_0_0) main_arg4
  let main_v40 : FVec F S256x256 .f32 := shapeCast S256x256 main_v39 shapeCasts_S1x256x256_S256x256
  let main_v41 : FVec F S256x256 .f32 := (fun l r => Host.dotGeneral dot_S256x256_S256x256_S256x256_1_0_0_1_n_n (some .fp32) l r) main_v38 main_v40
  let main_v42 : FVec F S256x256 .f32 := id main_v37
  let main_v43 : IVec S256x256 1 := cmpf .oeq main_v41 main_v42
  let main_c_11 : IVec S_ 1 := constantI S_ 1 1#1
  let main_v44 : IVec S_ 1 := (fun x v => Host.reduce IntOp.andi x v reducesTo_S256x256_S_d0_1 h_S_) main_v43 main_c_11
  let main_v45 : IVec S_ 1 := andi main_v31 main_v44
  let main_v46 : FVec F S256x256 .f32 := (extractStridedSlice S256x256 ![256, 256] · slices_S2560x2560_S256x256_256_256) main_v33
  let main_v47 : FVec F S1x256x256 .f32 := (extractStridedSlice S1x256x256 ![1, 0, 0] · slices_S10x256x256_S1x256x256_1_0_0) main_arg4
  let main_v48 : FVec F S256x256 .f32 := shapeCast S256x256 main_v47 shapeCasts_S1x256x256_S256x256
  let main_v49 : FVec F S256x256 .f32 := (fun l r => Host.dotGeneral dot_S256x256_S256x256_S256x256_1_0_0_1_n_n (some .fp32) l r) main_v46 main_v48
  let main_v50 : FVec F S256x256 .f32 := id main_v37
  let main_v51 : IVec S256x256 1 := cmpf .oeq main_v49 main_v50
  let main_c_12 : IVec S_ 1 := constantI S_ 1 1#1
  let main_v52 : IVec S_ 1 := (fun x v => Host.reduce IntOp.andi x v reducesTo_S256x256_S_d0_1 h_S_) main_v51 main_c_12
  let main_v53 : IVec S_ 1 := andi main_v45 main_v52
  let main_v54 : FVec F S256x256 .f32 := (extractStridedSlice S256x256 ![512, 512] · slices_S2560x2560_S256x256_512_512) main_v33
  let main_v55 : FVec F S1x256x256 .f32 := (extractStridedSlice S1x256x256 ![2, 0, 0] · slices_S10x256x256_S1x256x256_2_0_0) main_arg4
  let main_v56 : FVec F S256x256 .f32 := shapeCast S256x256 main_v55 shapeCasts_S1x256x256_S256x256
  fn_part3 (F := F) main_arg4 main_v33 main_v37 main_v53 main_v54 main_v56

def fn_part1 {F : FTy → Type} [FloatOps F] (main_arg3 : FVec F S2560x2560 .f32) (main_arg4 : FVec F S10x256x256 .f32) (main_v0 : IVec S2560x2560 32) (main_v1 : IVec S2560x2560 32) (main_v13 : IVec S_ 1) (main_v18 : IVec S2560x2560 1) : IVec S_ 1 :=
  let main_c_3 : IVec S_ 1 := constantI S_ 1 1#1
  let main_v19 : IVec S_ 1 := (fun x v => Host.reduce IntOp.andi x v reducesTo_S2560x2560_S_d0_1 h_S_) main_v18 main_c_3
  let main_v20 : IVec S_ 1 := andi main_v13 main_v19
  let main_cst_4 : FVec F S_ .f32 := constant S_ .f32 0x00000000#32
  let main_v21 : FVec F S2560x2560 .f32 := broadcastInDim S2560x2560 ![] bcast_S_S2560x2560 main_cst_4
  let main_v22 : IVec S2560x2560 1 := cmpf .une main_arg3 main_v21
  let main_v23 : IVec S2560x2560 1 := cmpi .ne main_v0 main_v1
  let main_v24 : IVec S2560x2560 1 := ori main_v22 main_v23
  let main_c_5 : IVec S_ 1 := constantI S_ 1 1#1
  let main_v25 : IVec S_ 1 := (fun x v => Host.reduce IntOp.andi x v reducesTo_S2560x2560_S_d0_1 h_S_) main_v24 main_c_5
  let main_v26 : IVec S_ 1 := andi main_v20 main_v25
  let main_v27 : FVec F S10x256x256 .f32 := Host.absf main_arg4
  let main_cst_6 : FVec F S_ .f32 := constant S_ .f32 0x7F800000#32
  let main_v28 : FVec F S10x256x256 .f32 := broadcastInDim S10x256x256 ![] bcast_S_S10x256x256 main_cst_6
  let main_v29 : IVec S10x256x256 1 := cmpf .olt main_v27 main_v28
  let main_c_7 : IVec S_ 1 := constantI S_ 1 1#1
  let main_v30 : IVec S_ 1 := (fun x v => Host.reduce IntOp.andi x v reducesTo_S10x256x256_S_d0_1_2 h_S_) main_v29 main_c_7
  let main_v31 : IVec S_ 1 := andi main_v26 main_v30
  let main_v32 : IVec S2560x2560 1 := cmpi .sle main_v0 main_v1
  let main_cst_8 : FVec F S_ .f32 := constant S_ .f32 0x00000000#32
  let main_v33 : FVec F S2560x2560 .f32 := fn_where (F := F) main_v32 main_arg3 main_cst_8
  let main_v34 : IVec S256x256 32 := iotaInDim S256x256 32 0
  let main_v35 : IVec S256x256 32 := iotaInDim S256x256 32 1
  let main_v36 : IVec S256x256 1 := cmpi .eq main_v34 main_v35
  fn_part2 (F := F) main_arg4 main_v31 main_v33 main_v36

def fn {F : FTy → Type} [FloatOps F] (main_arg0 : FVec F S5x384x2560 .bf16) (main_arg1 : IVec S5x384x1280 8) (main_arg2 : IVec S5x20x256x2 16) (main_arg3 : FVec F S2560x2560 .f32) (main_arg4 : FVec F S10x256x256 .f32) : IVec S_ 1 :=
  let main_v0 : IVec S2560x2560 32 := iotaInDim S2560x2560 32 0
  let main_v1 : IVec S2560x2560 32 := iotaInDim S2560x2560 32 1
  let main_v2 : FVec F S5x20x256x2 .bf16 := bitcastToFloat .bf16 main_arg2
  let main_v3 : FVec F S5x20x256x2 .f32 := (extf .f32 · bitsLt_bf16_f32) main_v2
  let main_v4 : FVec F S5x384x2560 .f32 := (extf .f32 · bitsLt_bf16_f32) main_arg0
  let main_v5 : FVec F S5x384x2560 .f32 := Host.absf main_v4
  let main_cst : FVec F S_ .f32 := constant S_ .f32 0x7F800000#32
  let main_v6 : FVec F S5x384x2560 .f32 := broadcastInDim S5x384x2560 ![] bcast_S_S5x384x2560 main_cst
  let main_v7 : IVec S5x384x2560 1 := cmpf .olt main_v5 main_v6
  let main_c : IVec S_ 1 := constantI S_ 1 1#1
  let main_v8 : IVec S_ 1 := (fun x v => Host.reduce IntOp.andi x v reducesTo_S5x384x2560_S_d0_1_2 h_S_) main_v7 main_c
  let main_v9 : FVec F S5x20x256x2 .f32 := Host.absf main_v3
  let main_cst_0 : FVec F S_ .f32 := constant S_ .f32 0x7F800000#32
  let main_v10 : FVec F S5x20x256x2 .f32 := broadcastInDim S5x20x256x2 ![] bcast_S_S5x20x256x2 main_cst_0
  let main_v11 : IVec S5x20x256x2 1 := cmpf .olt main_v9 main_v10
  let main_c_1 : IVec S_ 1 := constantI S_ 1 1#1
  let main_v12 : IVec S_ 1 := (fun x v => Host.reduce IntOp.andi x v reducesTo_S5x20x256x2_S_d0_1_2_3 h_S_) main_v11 main_c_1
  let main_v13 : IVec S_ 1 := andi main_v8 main_v12
  let main_v14 : FVec F S2560x2560 .f32 := Host.absf main_arg3
  let main_cst_2 : FVec F S_ .f32 := constant S_ .f32 0x7F800000#32
  let main_v15 : FVec F S2560x2560 .f32 := broadcastInDim S2560x2560 ![] bcast_S_S2560x2560 main_cst_2
  let main_v16 : IVec S2560x2560 1 := cmpf .olt main_v14 main_v15
  let main_v17 : IVec S2560x2560 1 := cmpi .sgt main_v0 main_v1
  let main_v18 : IVec S2560x2560 1 := ori main_v16 main_v17
  fn_part1 (F := F) main_arg3 main_arg4 main_v0 main_v1 main_v13 main_v18
-- ==== Kernel.lean ====
abbrev S5x384x2560 : Shape := ⟨3, ![5, 384, 2560]⟩
abbrev S5x384x1280 : Shape := ⟨3, ![5, 384, 1280]⟩
abbrev S5x20x256x2 : Shape := ⟨4, ![5, 20, 256, 2]⟩
abbrev S2560x2560 : Shape := ⟨2, ![2560, 2560]⟩
abbrev S10x256x256 : Shape := ⟨3, ![10, 256, 256]⟩
abbrev S5x20x256 : Shape := ⟨3, ![5, 20, 256]⟩
abbrev S1x384x2560 : Shape := ⟨3, ![1, 384, 2560]⟩
abbrev S1x384x1280 : Shape := ⟨3, ![1, 384, 1280]⟩
abbrev S1x20x256 : Shape := ⟨3, ![1, 20, 256]⟩
abbrev S1x1x256 : Shape := ⟨3, ![1, 1, 256]⟩
abbrev S1x256 : Shape := ⟨2, ![1, 256]⟩
abbrev S1x128 : Shape := ⟨2, ![1, 128]⟩
abbrev S8x128 : Shape := ⟨2, ![8, 128]⟩
abbrev S1x384x128 : Shape := ⟨3, ![1, 384, 128]⟩
abbrev S384x128 : Shape := ⟨2, ![384, 128]⟩
abbrev S32x128 : Shape := ⟨2, ![32, 128]⟩
abbrev S8x128x1 : Shape := ⟨3, ![8, 128, 1]⟩
abbrev S32x128x1 : Shape := ⟨3, ![32, 128, 1]⟩
abbrev S32x256 : Shape := ⟨2, ![32, 256]⟩
abbrev S384x256 : Shape := ⟨2, ![384, 256]⟩
abbrev S1x384x256 : Shape := ⟨3, ![1, 384, 256]⟩
abbrev S1x256x256 : Shape := ⟨3, ![1, 256, 256]⟩
abbrev S256x256 : Shape := ⟨2, ![256, 256]⟩
abbrev S1x384x512 : Shape := ⟨3, ![1, 384, 512]⟩
abbrev S384x512 : Shape := ⟨2, ![384, 512]⟩
abbrev S512x256 : Shape := ⟨2, ![512, 256]⟩
abbrev S1x384x768 : Shape := ⟨3, ![1, 384, 768]⟩
abbrev S384x768 : Shape := ⟨2, ![384, 768]⟩
abbrev S768x256 : Shape := ⟨2, ![768, 256]⟩
abbrev S1x384x1024 : Shape := ⟨3, ![1, 384, 1024]⟩
abbrev S384x1024 : Shape := ⟨2, ![384, 1024]⟩
abbrev S1024x256 : Shape := ⟨2, ![1024, 256]⟩
abbrev S384x1280 : Shape := ⟨2, ![384, 1280]⟩
abbrev S1280x256 : Shape := ⟨2, ![1280, 256]⟩
abbrev S1x384x1536 : Shape := ⟨3, ![1, 384, 1536]⟩
abbrev S384x1536 : Shape := ⟨2, ![384, 1536]⟩
abbrev S1536x256 : Shape := ⟨2, ![1536, 256]⟩
abbrev S1x384x1792 : Shape := ⟨3, ![1, 384, 1792]⟩
abbrev S384x1792 : Shape := ⟨2, ![384, 1792]⟩
abbrev S1792x256 : Shape := ⟨2, ![1792, 256]⟩
abbrev S1x384x2048 : Shape := ⟨3, ![1, 384, 2048]⟩
abbrev S384x2048 : Shape := ⟨2, ![384, 2048]⟩
abbrev S2048x256 : Shape := ⟨2, ![2048, 256]⟩
abbrev S1x384x2304 : Shape := ⟨3, ![1, 384, 2304]⟩
abbrev S384x2304 : Shape := ⟨2, ![384, 2304]⟩
abbrev S2304x256 : Shape := ⟨2, ![2304, 256]⟩

abbrev nBuf : Space → Nat
  | .hbm => 8
  | .vmem => 12
  | .smem => 0
  | _ => 0

abbrev bufTy : (tb : Table) → Fin (tcTables nBuf tb) → BufTy
  | .hbm, ⟨0, _⟩ => ⟨S5x384x2560, .bf16⟩
  | .hbm, ⟨1, _⟩ => ⟨S5x384x1280, .i8⟩
  | .hbm, ⟨2, _⟩ => ⟨S5x20x256x2, .i16⟩
  | .hbm, ⟨3, _⟩ => ⟨S2560x2560, .f32⟩
  | .hbm, ⟨4, _⟩ => ⟨S10x256x256, .f32⟩
  | .hbm, ⟨5, _⟩ => ⟨S5x20x256, .i32⟩
  | .hbm, ⟨6, _⟩ => ⟨S5x384x2560, .bf16⟩
  | .hbm, ⟨7, _⟩ => ⟨S5x384x2560, .f32⟩
  | .local _ .vmem, ⟨0, _⟩ => ⟨S1x384x2560, .bf16⟩
  | .local _ .vmem, ⟨1, _⟩ => ⟨S1x384x2560, .bf16⟩
  | .local _ .vmem, ⟨2, _⟩ => ⟨S1x384x1280, .i8⟩
  | .local _ .vmem, ⟨3, _⟩ => ⟨S1x384x1280, .i8⟩
  | .local _ .vmem, ⟨4, _⟩ => ⟨S1x20x256, .i32⟩
  | .local _ .vmem, ⟨5, _⟩ => ⟨S1x20x256, .i32⟩
  | .local _ .vmem, ⟨6, _⟩ => ⟨S2560x2560, .f32⟩
  | .local _ .vmem, ⟨7, _⟩ => ⟨S10x256x256, .f32⟩
  | .local _ .vmem, ⟨8, _⟩ => ⟨S1x384x2560, .bf16⟩
  | .local _ .vmem, ⟨9, _⟩ => ⟨S1x384x2560, .bf16⟩
  | .local _ .vmem, ⟨10, _⟩ => ⟨S1x384x2560, .f32⟩
  | .local _ .vmem, ⟨11, _⟩ => ⟨S1x384x2560, .f32⟩
  | _, _ => ⟨S5x384x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![5], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x384x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x384x1280 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x20x256 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2560x2560 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S10x256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x384x2560 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x384x2560 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S5x384x2560 : Shape := ⟨3, ![5, 384, 2560]⟩
abbrev S5x384x1280 : Shape := ⟨3, ![5, 384, 1280]⟩
abbrev S5x20x256x2 : Shape := ⟨4, ![5, 20, 256, 2]⟩
abbrev S2560x2560 : Shape := ⟨2, ![2560, 2560]⟩
abbrev S10x256x256 : Shape := ⟨3, ![10, 256, 256]⟩
abbrev S1280 : Shape := ⟨1, ![1280]⟩
abbrev S_ : Shape := ⟨0, ![]⟩
abbrev S5 : Shape := ⟨1, ![5]⟩
abbrev S5x1x1 : Shape := ⟨3, ![5, 1, 1]⟩
abbrev S1x1x1280 : Shape := ⟨3, ![1, 1, 1280]⟩
abbrev S5x384x1280x1 : Shape := ⟨4, ![5, 384, 1280, 1]⟩
abbrev S5x384x1280x3 : Shape := ⟨4, ![5, 384, 1280, 3]⟩
abbrev S5x384x1280x2 : Shape := ⟨4, ![5, 384, 1280, 2]⟩
abbrev S1920x2560 : Shape := ⟨2, ![1920, 2560]⟩
abbrev S1x2560 : Shape := ⟨2, ![1, 2560]⟩
abbrev S1x1 : Shape := ⟨2, ![1, 1]⟩
abbrev S1920x1 : Shape := ⟨2, ![1920, 1]⟩

abbrev nBuf : Space → Nat
  | .hbm => 129
  | .vmem => 0
  | .smem => 0
  | _ => 0

abbrev hbmTy0_0 (i : Nat) : BufTy := match i % 128 with
  | 0 => ⟨S5x384x2560, .bf16⟩
  | 1 => ⟨S5x384x1280, .i8⟩
  | 2 => ⟨S5x20x256x2, .i16⟩
  | 3 => ⟨S2560x2560, .f32⟩
  | 4 => ⟨S10x256x256, .f32⟩
  | 5 => ⟨S5x20x256x2, .bf16⟩
  | 6 => ⟨S1280, .i32⟩
  | 7 => ⟨S_, .i32⟩
  | 8 => ⟨S1280, .i32⟩
  | 9 => ⟨S1280, .i32⟩
  | 10 => ⟨S_, .i32⟩
  | 11 => ⟨S_, .i32⟩
  | 12 => ⟨S1280, .i32⟩
  | 13 => ⟨S1280, .i32⟩
  | 14 => ⟨S1280, .i32⟩
  | 15 => ⟨S_, .i32⟩
  | 16 => ⟨S1280, .i32⟩
  | 17 => ⟨S1280, .i1⟩
  | 18 => ⟨S1280, .i32⟩
  | 19 => ⟨S1280, .i32⟩
  | 20 => ⟨S_, .i32⟩
  | 21 => ⟨S1280, .i32⟩
  | 22 => ⟨S1280, .i1⟩
  | 23 => ⟨S1280, .i1⟩
  | 24 => ⟨S_, .i32⟩
  | 25 => ⟨S1280, .i32⟩
  | 26 => ⟨S1280, .i32⟩
  | 27 => ⟨S1280, .i32⟩
  | 28 => ⟨S5, .i32⟩
  | 29 => ⟨S5x1x1, .i32⟩
  | 30 => ⟨S1x1x1280, .i32⟩
  | 31 => ⟨S5x384x1280, .i32⟩
  | 32 => ⟨S_, .i32⟩
  | 33 => ⟨S5x1x1, .i32⟩
  | 34 => ⟨S5x1x1, .i1⟩
  | 35 => ⟨S_, .i32⟩
  | 36 => ⟨S5x1x1, .i32⟩
  | 37 => ⟨S5x1x1, .i32⟩
  | 38 => ⟨S5x1x1, .i32⟩
  | 39 => ⟨S_, .i32⟩
  | 40 => ⟨S1x1x1280, .i32⟩
  | 41 => ⟨S1x1x1280, .i1⟩
  | 42 => ⟨S_, .i32⟩
  | 43 => ⟨S1x1x1280, .i32⟩
  | 44 => ⟨S1x1x1280, .i32⟩
  | 45 => ⟨S1x1x1280, .i32⟩
  | 46 => ⟨S_, .i32⟩
  | 47 => ⟨S5x384x1280, .i32⟩
  | 48 => ⟨S5x384x1280, .i1⟩
  | 49 => ⟨S_, .i32⟩
  | 50 => ⟨S5x384x1280, .i32⟩
  | 51 => ⟨S5x384x1280, .i32⟩
  | 52 => ⟨S5x384x1280, .i32⟩
  | 53 => ⟨S5x384x1280, .i32⟩
  | 54 => ⟨S5x384x1280, .i32⟩
  | 55 => ⟨S5x384x1280x1, .i32⟩
  | 56 => ⟨S5x384x1280x1, .i32⟩
  | 57 => ⟨S5x384x1280x1, .i32⟩
  | 58 => ⟨S5x384x1280x3, .i32⟩
  | 59 => ⟨S5x384x1280x2, .bf16⟩
  | 60 => ⟨S5x384x2560, .bf16⟩
  | 61 => ⟨S5x384x2560, .f32⟩
  | 62 => ⟨S5x384x2560, .f32⟩
  | 63 => ⟨S5x384x2560, .f32⟩
  | 64 => ⟨S1920x2560, .f32⟩
  | 65 => ⟨S1x2560, .i32⟩
  | 66 => ⟨S_, .i32⟩
  | 67 => ⟨S_, .i32⟩
  | 68 => ⟨S5x384x2560, .bf16⟩
  | 69 => ⟨S2560x2560, .f32⟩
  | 70 => ⟨S1x2560, .i32⟩
  | 71 => ⟨S_, .i32⟩
  | 72 => ⟨S_, .i32⟩
  | 73 => ⟨S1920x2560, .f32⟩
  | 74 => ⟨S_, .i32⟩
  | 75 => ⟨S_, .i1⟩
  | 76 => ⟨S_, .i32⟩
  | 77 => ⟨S_, .i32⟩
  | 78 => ⟨S_, .i32⟩
  | 79 => ⟨S_, .i1⟩
  | 80 => ⟨S_, .i32⟩
  | 81 => ⟨S_, .i32⟩
  | 82 => ⟨S_, .i32⟩
  | 83 => ⟨S_, .i32⟩
  | 84 => ⟨S_, .i32⟩
  | 85 => ⟨S1x2560, .f32⟩
  | 86 => ⟨S_, .i32⟩
  | 87 => ⟨S_, .i1⟩
  | 88 => ⟨S_, .i32⟩
  | 89 => ⟨S_, .i32⟩
  | 90 => ⟨S_, .i32⟩
  | 91 => ⟨S_, .i32⟩
  | 92 => ⟨S_, .i32⟩
  | 93 => ⟨S_, .i1⟩
  | 94 => ⟨S_, .i32⟩
  | 95 => ⟨S_, .i32⟩
  | 96 => ⟨S_, .i32⟩
  | 97 => ⟨S_, .i32⟩
  | 98 => ⟨S1x1, .f32⟩
  | 99 => ⟨S_, .i32⟩
  | 100 => ⟨S_, .i1⟩
  | 101 => ⟨S_, .i32⟩
  | 102 => ⟨S_, .i32⟩
  | 103 => ⟨S_, .i32⟩
  | 104 => ⟨S_, .i32⟩
  | 105 => ⟨S_, .i32⟩
  | 106 => ⟨S1920x1, .f32⟩
  | 107 => ⟨S1920x1, .f32⟩
  | 108 => ⟨S1920x1, .f32⟩
  | 109 => ⟨S_, .i32⟩
  | 110 => ⟨S1x2560, .i32⟩
  | 111 => ⟨S1x2560, .i1⟩
  | 112 => ⟨S_, .f32⟩
  | 113 => ⟨S_, .f32⟩
  | 114 => ⟨S1x2560, .f32⟩
  | 115 => ⟨S1x2560, .f32⟩
  | 116 => ⟨S_, .i32⟩
  | 117 => ⟨S1x2560, .i32⟩
  | 118 => ⟨S1x2560, .i1⟩
  | 119 => ⟨S1920x2560, .f32⟩
  | 120 => ⟨S1920x2560, .f32⟩
  | 121 => ⟨S1920x2560, .f32⟩
  | 122 => ⟨S1920x2560, .f32⟩
  | 123 => ⟨S1920x2560, .i1⟩
  | 124 => ⟨S1920x2560, .f32⟩
  | 125 => ⟨S1920x2560, .f32⟩
  | 126 => ⟨S_, .i32⟩
  | 127 => ⟨S_, .i32⟩
  | _ => ⟨S5x384x2560, .bf16⟩

abbrev hbmTy0_1 (i : Nat) : BufTy := match i % 128 with
  | 0 => ⟨S5x384x2560, .f32⟩
  | _ => ⟨S5x384x2560, .bf16⟩

abbrev hbmTy (i : Nat) : BufTy := match i / 128 with
  | 0 => hbmTy0_0 i
  | 1 => hbmTy0_1 i
  | _ => ⟨S5x384x2560, .bf16⟩

abbrev bufTy : (tb : Table) → Fin (tcTables nBuf tb) → BufTy
  | .hbm, ⟨i, _⟩ => hbmTy i
  | _, _ => ⟨S5x384x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_c : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_0 : Ref sig .tc := ⟨.hbm, 24, rfl⟩
abbrev main_call0_v12 : Ref sig .tc := ⟨.hbm, 25, rfl⟩
abbrev main_call0_v13 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_c_1 : Ref sig .tc := ⟨.hbm, 32, rfl⟩
abbrev main_v9 : Ref sig .tc := ⟨.hbm, 33, rfl⟩
abbrev main_v10 : Ref sig .tc := ⟨.hbm, 34, rfl⟩
abbrev main_c_2 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_c_3 : Ref sig .tc := ⟨.hbm, 39, rfl⟩
abbrev main_v14 : Ref sig .tc := ⟨.hbm, 40, rfl⟩
abbrev main_v15 : Ref sig .tc := ⟨.hbm, 41, rfl⟩
abbrev main_c_4 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_c_5 : Ref sig .tc := ⟨.hbm, 46, rfl⟩
abbrev main_v19 : Ref sig .tc := ⟨.hbm, 47, rfl⟩
abbrev main_v20 : Ref sig .tc := ⟨.hbm, 48, rfl⟩
abbrev main_c_6 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_c_7 : Ref sig .tc := ⟨.hbm, 66, rfl⟩
abbrev main_c_8 : Ref sig .tc := ⟨.hbm, 67, rfl⟩
abbrev main_v37_0 : Ref sig .tc := ⟨.hbm, 68, rfl⟩
abbrev main_v37_1 : Ref sig .tc := ⟨.hbm, 69, rfl⟩
abbrev main_v37_2 : Ref sig .tc := ⟨.hbm, 70, rfl⟩
abbrev main_v37_3 : Ref sig .tc := ⟨.hbm, 71, rfl⟩
abbrev main_v37_4 : Ref sig .tc := ⟨.hbm, 72, rfl⟩
abbrev main_v37_5 : Ref sig .tc := ⟨.hbm, 73, rfl⟩
abbrev main_while0c_c_14 : Ref sig .tc := ⟨.hbm, 74, rfl⟩
abbrev main_while0c_v39 : Ref sig .tc := ⟨.hbm, 75, rfl⟩
abbrev main_while0b_c_14 : Ref sig .tc := ⟨.hbm, 76, rfl⟩
abbrev main_while0b_v39 : Ref sig .tc := ⟨.hbm, 77, rfl⟩
abbrev main_while0b_c_15 : Ref sig .tc := ⟨.hbm, 78, rfl⟩
abbrev main_while0b_v40 : Ref sig .tc := ⟨.hbm, 79, rfl⟩
abbrev main_while0b_v41 : Ref sig .tc := ⟨.hbm, 80, rfl⟩
abbrev main_while0b_c_16 : Ref sig .tc := ⟨.hbm, 81, rfl⟩
abbrev main_while0b_v42 : Ref sig .tc := ⟨.hbm, 82, rfl⟩
abbrev main_while0b_v43 : Ref sig .tc := ⟨.hbm, 83, rfl⟩
abbrev main_while0b_c_17 : Ref sig .tc := ⟨.hbm, 84, rfl⟩
abbrev main_while0b_v44 : Ref sig .tc := ⟨.hbm, 85, rfl⟩
abbrev main_while0b_c_18 : Ref sig .tc := ⟨.hbm, 86, rfl⟩
abbrev main_while0b_v45 : Ref sig .tc := ⟨.hbm, 87, rfl⟩
abbrev main_while0b_v46 : Ref sig .tc := ⟨.hbm, 88, rfl⟩
abbrev main_while0b_c_19 : Ref sig .tc := ⟨.hbm, 89, rfl⟩
abbrev main_while0b_v47 : Ref sig .tc := ⟨.hbm, 90, rfl⟩
abbrev main_while0b_v48 : Ref sig .tc := ⟨.hbm, 91, rfl⟩
abbrev main_while0b_c_20 : Ref sig .tc := ⟨.hbm, 92, rfl⟩
abbrev main_while0b_v49 : Ref sig .tc := ⟨.hbm, 93, rfl⟩
abbrev main_while0b_v50 : Ref sig .tc := ⟨.hbm, 94, rfl⟩
abbrev main_while0b_c_21 : Ref sig .tc := ⟨.hbm, 95, rfl⟩
abbrev main_while0b_v51 : Ref sig .tc := ⟨.hbm, 96, rfl⟩
abbrev main_while0b_v52 : Ref sig .tc := ⟨.hbm, 97, rfl⟩
abbrev main_while0b_v53 : Ref sig .tc := ⟨.hbm, 98, rfl⟩
abbrev main_while0b_c_22 : Ref sig .tc := ⟨.hbm, 99, rfl⟩
abbrev main_while0b_v54 : Ref sig .tc := ⟨.hbm, 100, rfl⟩
abbrev main_while0b_v55 : Ref sig .tc := ⟨.hbm, 101, rfl⟩
abbrev main_while0b_c_23 : Ref sig .tc := ⟨.hbm, 102, rfl⟩
abbrev main_while0b_v56 : Ref sig .tc := ⟨.hbm, 103, rfl⟩
abbrev main_while0b_v57 : Ref sig .tc := ⟨.hbm, 104, rfl⟩
abbrev main_while0b_c_24 : Ref sig .tc := ⟨.hbm, 105, rfl⟩
abbrev main_while0b_v58 : Ref sig .tc := ⟨.hbm, 106, rfl⟩
abbrev main_while0b_v59 : Ref sig .tc := ⟨.hbm, 107, rfl⟩
abbrev main_while0b_v60 : Ref sig .tc := ⟨.hbm, 108, rfl⟩
abbrev main_while0b_v61 : Ref sig .tc := ⟨.hbm, 109, rfl⟩
abbrev main_while0b_v62 : Ref sig .tc := ⟨.hbm, 110, rfl⟩
abbrev main_while0b_v63 : Ref sig .tc := ⟨.hbm, 111, rfl⟩
abbrev main_while0b_cst : Ref sig .tc := ⟨.hbm, 112, rfl⟩
abbrev main_while0b_call1_v0 : Ref sig .tc := ⟨.hbm, 113, rfl⟩
abbrev main_while0b_call1_v1 : Ref sig .tc := ⟨.hbm, 114, rfl⟩
abbrev main_while0b_v64 : Ref sig .tc := ⟨.hbm, 115, rfl⟩
abbrev main_while0b_v65 : Ref sig .tc := ⟨.hbm, 116, rfl⟩
abbrev main_while0b_v66 : Ref sig .tc := ⟨.hbm, 117, rfl⟩
abbrev main_while0b_v67 : Ref sig .tc := ⟨.hbm, 118, rfl⟩
abbrev main_while0b_v68 : Ref sig .tc := ⟨.hbm, 119, rfl⟩
abbrev main_while0b_v69 : Ref sig .tc := ⟨.hbm, 120, rfl⟩
abbrev main_while0b_v70 : Ref sig .tc := ⟨.hbm, 121, rfl⟩
abbrev main_while0b_v71 : Ref sig .tc := ⟨.hbm, 122, rfl⟩
abbrev main_while0b_call2_v0 : Ref sig .tc := ⟨.hbm, 123, rfl⟩
abbrev main_while0b_call2_v1 : Ref sig .tc := ⟨.hbm, 124, rfl⟩
abbrev main_while0b_v72 : Ref sig .tc := ⟨.hbm, 125, rfl⟩
abbrev main_while0b_c_25 : Ref sig .tc := ⟨.hbm, 126, rfl⟩
abbrev main_while0b_v73 : Ref sig .tc := ⟨.hbm, 127, rfl⟩
abbrev main_v38 : Ref sig .tc := ⟨.hbm, 128, rfl⟩

abbrev nD : Nat := 1
abbrev τ : Topo := Topo.v7x

variable {F : FTy → Type} [FloatOps F]

abbrev main_while0_count : Scf.Loop 32 := ⟨0#32, 2560#32, 1#32⟩
-- ==== Proof.Vocab.lean ====
/-
  The kernel's blocks in one vocabulary: what one 32-row chunk of codes decodes to, what a 384 x 256 block of q is, and
  what a block of err is; and that the pieces the kernel's run stores are these, block by block.
-/
module

public import proofs.«01_k».proof.Proof.Gen.KernelIdeal.Value
public import Idealize.ShloMosaic.Lib.MatmulPlain

@[expose] public section

set_option synthInstance.maxSize 4096
set_option maxRecDepth 100000

noncomputable section

namespace Cert.KernelIdeal.Solve

open Cert.KernelIdeal Cert.KernelIdeal.Gen Idealize.ShloMosaic Idealize.ShloMosaic.TcCoe Idealize.SL.Sem

variable {F : FTy → Type} [FloatOps F]

/-- Half a table row (128 words from `off`), repeated over the 8 sublanes. -/
def half (off : ℕ) (h : S1x256.Slices ![0, off] S1x128) (t : Vec F S1x1x256 .i32) : IVec S8x128 32 :=
  broadcastTo S8x128 (shapeCast S1x128 (extractStridedSlice S1x128 ![0, off] (shapeCast S1x256 t shapeCasts_S1x1x256_S1x256 : IVec S1x256 32) h)
    shapeCasts_S1x128_S1x128) broadcasts_S1x128_S8x128

/-- The four-fold repetition of a table half over 32 rows. -/
def four (x : IVec S8x128 32) : IVec S32x128 32 :=
  concatenate S32x128 0 [⟨S8x128, x⟩, ⟨S8x128, x⟩, ⟨S8x128, x⟩, ⟨S8x128, x⟩] concatenates_S8x128_S8x128_S8x128_S8x128_S32x128_d0

/-- The codes of one half, one byte per lane: lane `l` reads code lane `l / 2 + k`. -/
def idxs (hl : IVec S8x128 32) (k : BitVec 32) (words : IVec S8x128 32) : IVec S32x128 32 :=
  extui 32 (bitcast S32x128 8 (dynamicGather 1 words
    (shapeCast S8x128 (shapeCast S8x128x1 (addi hl (broadcast S8x128 k)) shapeCasts_S8x128_S8x128x1) shapeCasts_S8x128x1_S8x128))
    bitcasts_S8x128_w32_S32x128_w8) natLt_8_32

/-- A code's low seven bits, the lane of its table half. -/
def lows (idx : IVec S32x128 32) : IVec S32x128 32 :=
  shapeCast S32x128 (shapeCast S32x128x1 (andi idx (broadcast S32x128 127#32)) shapeCasts_S32x128_S32x128x1) shapeCasts_S32x128x1_S32x128

/-- One half of a chunk decoded: the table word a code names, the wanted element of the pair moved to the high half. -/
def decoded (sh : IVec S32x128 32) (lo hi : IVec S8x128 32) (idx : IVec S32x128 32) : FVec F S32x128 .f32 :=
  bitcastToFloat .f32 (andi (shli (select (cmpi .slt idx (broadcast S32x128 128#32))
    (dynamicGather 1 (four lo) (lows idx)) (dynamicGather 1 (four hi) (lows idx))) sh) (broadcast S32x128 4294901760#32))

/-- A chunk of 32 rows decoded. -/
def chunk (o : ℕ) (h : S384x128.Slices ![o, 0] S32x128) (codes : IVec S384x128 8) (lo0 hi0 lo1 hi1 : IVec S8x128 32) : FVec F S32x256 .f32 :=
  concatenate S32x256 1 [
    ⟨S32x128, decoded k0_pay9 lo0 hi0 (idxs k0_pay8 0#32 (bitcast S8x128 32 (extractStridedSlice S32x128 ![o, 0] codes h) bitcasts_S32x128_w8_S8x128_w32))⟩,
    ⟨S32x128, decoded k0_pay9 lo1 hi1 (idxs k0_pay8 64#32 (bitcast S8x128 32 (extractStridedSlice S32x128 ![o, 0] codes h) bitcasts_S32x128_w8_S8x128_w32))⟩]
    concatenates_S32x128_S32x128_S32x256_d1

/-- A block of q from its codes and the two halves' table rows. -/
def rows (codes : IVec S384x128 8) (lo0 hi0 lo1 hi1 : IVec S8x128 32) : FVec F S384x256 .f32 :=
  concatenate S384x256 0 [⟨S32x256, chunk 0 slices_S384x128_o0_0_S32x128 codes lo0 hi0 lo1 hi1⟩,
    ⟨S32x256, chunk 32 slices_S384x128_o32_0_S32x128 codes lo0 hi0 lo1 hi1⟩,
    ⟨S32x256, chunk 64 slices_S384x128_o64_0_S32x128 codes lo0 hi0 lo1 hi1⟩,
    ⟨S32x256, chunk 96 slices_S384x128_o96_0_S32x128 codes lo0 hi0 lo1 hi1⟩,
    ⟨S32x256, chunk 128 slices_S384x128_o128_0_S32x128 codes lo0 hi0 lo1 hi1⟩,
    ⟨S32x256, chunk 160 slices_S384x128_o160_0_S32x128 codes lo0 hi0 lo1 hi1⟩,
    ⟨S32x256, chunk 192 slices_S384x128_o192_0_S32x128 codes lo0 hi0 lo1 hi1⟩,
    ⟨S32x256, chunk 224 slices_S384x128_o224_0_S32x128 codes lo0 hi0 lo1 hi1⟩,
    ⟨S32x256, chunk 256 slices_S384x128_o256_0_S32x128 codes lo0 hi0 lo1 hi1⟩,
    ⟨S32x256, chunk 288 slices_S384x128_o288_0_S32x128 codes lo0 hi0 lo1 hi1⟩,
    ⟨S32x256, chunk 320 slices_S384x128_o320_0_S32x128 codes lo0 hi0 lo1 hi1⟩,
    ⟨S32x256, chunk 352 slices_S384x128_o352_0_S32x128 codes lo0 hi0 lo1 hi1⟩]
    concatenates_S32x256_S32x256_S32x256_S32x256_S32x256_S32x256_S32x256_S32x256_S32x256_S32x256_S32x256_S32x256_S384x256_d0

/-- A block of q from the slab of codes and the two table rows it reads. -/
def qblk (cs : Vec F S1x384x128 .i8) (t0 t1 : Vec F S1x1x256 .i32) : FVec F S384x256 .f32 :=
  rows (shapeCast S384x128 cs shapeCasts_S1x384x128_S384x128 : IVec S384x128 8)
    (half 0 slices_S1x256_o0_0_S1x128 t0) (half 128 slices_S1x256_o0_128_S1x128 t0)
    (half 0 slices_S1x256_o0_0_S1x128 t1) (half 128 slices_S1x256_o0_128_S1x128 t1)

/-- … as stored. -/
def qst (cs : Vec F S1x384x128 .i8) (t0 t1 : Vec F S1x1x256 .i32) : FVec F S1x384x256 .bf16 :=
  shapeCast S1x384x256 (truncf .bf16 (qblk cs t0 t1) bitsLt_bf16_f32) shapeCasts_S384x256_S1x384x256

/-- A block of w less its block of q. -/
def resid (wb : Vec F S1x384x256 .bf16) (q : FVec F S384x256 .f32) : FVec F S384x256 .f32 :=
  subf (extf .f32 (shapeCast S384x256 wb shapeCasts_S1x384x256_S384x256 : FVec F S384x256 .bf16) bitsLt_bf16_f32) q

/-- A residual block times its inverse block, as stored. -/
def timesInv (r : FVec F S384x256 .f32) (vb : Vec F S1x256x256 .f32) : FVec F S1x384x256 .f32 :=
  shapeCast S1x384x256 (matmul (DotDims.plain 384 256 256) (some .fp32) r
    (shapeCast S256x256 vb shapeCasts_S1x256x256_S256x256 : FVec F S256x256 .f32) (constant S384x256 .f32 0x00000000#32)) shapeCasts_S384x256_S1x384x256

/-- The first block of err. -/
def errFirst (wb : Vec F S1x384x256 .bf16) (q : FVec F S384x256 .f32) (vb : Vec F S1x256x256 .f32) : FVec F S1x384x256 .f32 :=
  timesInv (resid wb q) vb

/-- A later block of err: the columns before, times what of u is above this block, come off first. -/
def errNext (K : ℕ) (h : (⟨3, ![1, 384, K]⟩ : Shape).ShapeCasts ⟨2, ![384, K]⟩) (wb : Vec F S1x384x256 .bf16) (q : FVec F S384x256 .f32)
    (eb : Vec F ⟨3, ![1, 384, K]⟩ .f32) (ub : Vec F ⟨2, ![K, 256]⟩ .f32) (vb : Vec F S1x256x256 .f32) : FVec F S1x384x256 .f32 :=
  timesInv (subf (resid wb q) (matmul (DotDims.plain 384 K 256) (some .fp32)
    (shapeCast ⟨2, ![384, K]⟩ eb h : FVec F ⟨2, ![384, K]⟩ .f32) ub (constant S384x256 .f32 0x00000000#32))) vb

section Pieces

variable (c : Dev nD) (i : grid0.Coords) (arg1 : Memref sig .tc .vmem S1x384x2560 .bf16) (harg1 : arg1.IsWhole) (arg2 : Memref sig .tc .vmem S1x384x1280 .i8) (harg2 : arg2.IsWhole) (arg3 : Memref sig .tc .vmem S1x20x256 .i32) (harg3 : arg3.IsWhole) (arg4 : Memref sig .tc .vmem S2560x2560 .f32) (harg4 : arg4.IsWhole) (arg5 : Memref sig .tc .vmem S10x256x256 .f32) (harg5 : arg5.IsWhole) (arg6 : Memref sig .tc .vmem S1x384x2560 .bf16) (harg6 : arg6.IsWhole) (arg7 : Memref sig .tc .vmem S1x384x2560 .f32) (harg7 : arg7.IsWhole)
    (x0 : Vec F S1x384x2560 .bf16) (x1 : Vec F S1x384x1280 .i8) (x2 : Vec F S1x20x256 .i32) (x3 : Vec F S2560x2560 .f32) (x4 : Vec F S10x256x256 .f32)

/-- The pieces of q the run stores, last first. -/
theorem pieces5 : (kernelRun0_A c i arg1 harg1 arg2 harg2 arg3 harg3 arg4 harg4 arg5 harg5 arg6 harg6 arg7 harg7 x0 x1 x2 x3 x4).1 = [
    ⟨Rect.unit (s := S1x384x2560) ![0, 0, 2304] S1x384x256.size inb_S1x384x2560_S1x384x256_0_0_2304, qst (View.readAt (Elt F) arg2.view (Rect.unit (s := S1x384x1280) ![0, 0, 1152] S1x384x128.size inb_S1x384x1280_S1x384x128_0_0_1152).toLoadRect (harg2.unread x1))
      (View.readAt (Elt F) arg3.view (Rect.unit (s := S1x20x256) ![0, 18, 0] S1x1x256.size inb_S1x20x256_S1x1x256_0_18_0).toLoadRect (harg3.unread x2))
      (View.readAt (Elt F) arg3.view (Rect.unit (s := S1x20x256) ![0, 19, 0] S1x1x256.size inb_S1x20x256_S1x1x256_0_19_0).toLoadRect (harg3.unread x2))⟩,
    ⟨Rect.unit (s := S1x384x2560) ![0, 0, 2048] S1x384x256.size inb_S1x384x2560_S1x384x256_0_0_2048, qst (View.readAt (Elt F) arg2.view (Rect.unit (s := S1x384x1280) ![0, 0, 1024] S1x384x128.size inb_S1x384x1280_S1x384x128_0_0_1024).toLoadRect (harg2.unread x1))
      (View.readAt (Elt F) arg3.view (Rect.unit (s := S1x20x256) ![0, 16, 0] S1x1x256.size inb_S1x20x256_S1x1x256_0_16_0).toLoadRect (harg3.unread x2))
      (View.readAt (Elt F) arg3.view (Rect.unit (s := S1x20x256) ![0, 17, 0] S1x1x256.size inb_S1x20x256_S1x1x256_0_17_0).toLoadRect (harg3.unread x2))⟩,
    ⟨Rect.unit (s := S1x384x2560) ![0, 0, 1792] S1x384x256.size inb_S1x384x2560_S1x384x256_0_0_1792, qst (View.readAt (Elt F) arg2.view (Rect.unit (s := S1x384x1280) ![0, 0, 896] S1x384x128.size inb_S1x384x1280_S1x384x128_0_0_896).toLoadRect (harg2.unread x1))
      (View.readAt (Elt F) arg3.view (Rect.unit (s := S1x20x256) ![0, 14, 0] S1x1x256.size inb_S1x20x256_S1x1x256_0_14_0).toLoadRect (harg3.unread x2))
      (View.readAt (Elt F) arg3.view (Rect.unit (s := S1x20x256) ![0, 15, 0] S1x1x256.size inb_S1x20x256_S1x1x256_0_15_0).toLoadRect (harg3.unread x2))⟩,
    ⟨Rect.unit (s := S1x384x2560) ![0, 0, 1536] S1x384x256.size inb_S1x384x2560_S1x384x256_0_0_1536, qst (View.readAt (Elt F) arg2.view (Rect.unit (s := S1x384x1280) ![0, 0, 768] S1x384x128.size inb_S1x384x1280_S1x384x128_0_0_768).toLoadRect (harg2.unread x1))
      (View.readAt (Elt F) arg3.view (Rect.unit (s := S1x20x256) ![0, 12, 0] S1x1x256.size inb_S1x20x256_S1x1x256_0_12_0).toLoadRect (harg3.unread x2))
      (View.readAt (Elt F) arg3.view (Rect.unit (s := S1x20x256) ![0, 13, 0] S1x1x256.size inb_S1x20x256_S1x1x256_0_13_0).toLoadRect (harg3.unread x2))⟩,
    ⟨Rect.unit (s := S1x384x2560) ![0, 0, 1280] S1x384x256.size inb_S1x384x2560_S1x384x256_0_0_1280, qst (View.readAt (Elt F) arg2.view (Rect.unit (s := S1x384x1280) ![0, 0, 640] S1x384x128.size inb_S1x384x1280_S1x384x128_0_0_640).toLoadRect (harg2.unread x1))
      (View.readAt (Elt F) arg3.view (Rect.unit (s := S1x20x256) ![0, 10, 0] S1x1x256.size inb_S1x20x256_S1x1x256_0_10_0).toLoadRect (harg3.unread x2))
      (View.readAt (Elt F) arg3.view (Rect.unit (s := S1x20x256) ![0, 11, 0] S1x1x256.size inb_S1x20x256_S1x1x256_0_11_0).toLoadRect (harg3.unread x2))⟩,
    ⟨Rect.unit (s := S1x384x2560) ![0, 0, 1024] S1x384x256.size inb_S1x384x2560_S1x384x256_0_0_1024, qst (View.readAt (Elt F) arg2.view (Rect.unit (s := S1x384x1280) ![0, 0, 512] S1x384x128.size inb_S1x384x1280_S1x384x128_0_0_512).toLoadRect (harg2.unread x1))
      (View.readAt (Elt F) arg3.view (Rect.unit (s := S1x20x256) ![0, 8, 0] S1x1x256.size inb_S1x20x256_S1x1x256_0_8_0).toLoadRect (harg3.unread x2))
      (View.readAt (Elt F) arg3.view (Rect.unit (s := S1x20x256) ![0, 9, 0] S1x1x256.size inb_S1x20x256_S1x1x256_0_9_0).toLoadRect (harg3.unread x2))⟩,
    ⟨Rect.unit (s := S1x384x2560) ![0, 0, 768] S1x384x256.size inb_S1x384x2560_S1x384x256_0_0_768, qst (View.readAt (Elt F) arg2.view (Rect.unit (s := S1x384x1280) ![0, 0, 384] S1x384x128.size inb_S1x384x1280_S1x384x128_0_0_384).toLoadRect (harg2.unread x1))
      (View.readAt (Elt F) arg3.view (Rect.unit (s := S1x20x256) ![0, 6, 0] S1x1x256.size inb_S1x20x256_S1x1x256_0_6_0).toLoadRect (harg3.unread x2))
      (View.readAt (Elt F) arg3.view (Rect.unit (s := S1x20x256) ![0, 7, 0] S1x1x256.size inb_S1x20x256_S1x1x256_0_7_0).toLoadRect (harg3.unread x2))⟩,
    ⟨Rect.unit (s := S1x384x2560) ![0, 0, 512] S1x384x256.size inb_S1x384x2560_S1x384x256_0_0_512, qst (View.readAt (Elt F) arg2.view (Rect.unit (s := S1x384x1280) ![0, 0, 256] S1x384x128.size inb_S1x384x1280_S1x384x128_0_0_256).toLoadRect (harg2.unread x1))
      (View.readAt (Elt F) arg3.view (Rect.unit (s := S1x20x256) ![0, 4, 0] S1x1x256.size inb_S1x20x256_S1x1x256_0_4_0).toLoadRect (harg3.unread x2))
      (View.readAt (Elt F) arg3.view (Rect.unit (s := S1x20x256) ![0, 5, 0] S1x1x256.size inb_S1x20x256_S1x1x256_0_5_0).toLoadRect (harg3.unread x2))⟩,
    ⟨Rect.unit (s := S1x384x2560) ![0, 0, 256] S1x384x256.size inb_S1x384x2560_S1x384x256_0_0_256, qst (View.readAt (Elt F) arg2.view (Rect.unit (s := S1x384x1280) ![0, 0, 128] S1x384x128.size inb_S1x384x1280_S1x384x128_0_0_128).toLoadRect (harg2.unread x1))
      (View.readAt (Elt F) arg3.view (Rect.unit (s := S1x20x256) ![0, 2, 0] S1x1x256.size inb_S1x20x256_S1x1x256_0_2_0).toLoadRect (harg3.unread x2))
      (View.readAt (Elt F) arg3.view (Rect.unit (s := S1x20x256) ![0, 3, 0] S1x1x256.size inb_S1x20x256_S1x1x256_0_3_0).toLoadRect (harg3.unread x2))⟩,
    ⟨Rect.unit (s := S1x384x2560) ![0, 0, 0] S1x384x256.size inb_S1x384x2560_S1x384x256_0_0_0, qst (View.readAt (Elt F) arg2.view (Rect.unit (s := S1x384x1280) ![0, 0, 0] S1x384x128.size inb_S1x384x1280_S1x384x128_0_0_0).toLoadRect (harg2.unread x1))
      (View.readAt (Elt F) arg3.view (Rect.unit (s := S1x20x256) ![0, 0, 0] S1x1x256.size inb_S1x20x256_S1x1x256_0_0_0).toLoadRect (harg3.unread x2))
      (View.readAt (Elt F) arg3.view (Rect.unit (s := S1x20x256) ![0, 1, 0] S1x1x256.size inb_S1x20x256_S1x1x256_0_1_0).toLoadRect (harg3.unread x2))⟩] := by
  unfold kernelRun0_A; dsimp only
  refine congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ (rfl))))))))))
  all_goals rfl

/-- The pieces of err after block 0. -/
theorem pieces6_0 : kernelRun0_A.sl.H6_1 c arg1 harg1 arg2 harg2 arg3 harg3 arg5 harg5 x0 x1 x2 x4 = ⟨Rect.unit (s := S1x384x2560) ![0, 0, 0] S1x384x256.size inb_S1x384x2560_S1x384x256_0_0_0,
    errFirst (View.readAt (Elt F) arg1.view (Rect.unit (s := S1x384x2560) ![0, 0, 0] S1x384x256.size inb_S1x384x2560_S1x384x256_0_0_0).toLoadRect (harg1.unread x0))
      (qblk (View.readAt (Elt F) arg2.view (Rect.unit (s := S1x384x1280) ![0, 0, 0] S1x384x128.size inb_S1x384x1280_S1x384x128_0_0_0).toLoadRect (harg2.unread x1))
      (View.readAt (Elt F) arg3.view (Rect.unit (s := S1x20x256) ![0, 0, 0] S1x1x256.size inb_S1x20x256_S1x1x256_0_0_0).toLoadRect (harg3.unread x2))
      (View.readAt (Elt F) arg3.view (Rect.unit (s := S1x20x256) ![0, 1, 0] S1x1x256.size inb_S1x20x256_S1x1x256_0_1_0).toLoadRect (harg3.unread x2)))
      (View.readAt (Elt F) arg5.view (Rect.unit (s := S10x256x256) ![0, 0, 0] S1x256x256.size inb_S10x256x256_S1x256x256_0_0_0).toLoadRect (harg5.unread x4))⟩ :: [] := rfl

/-- The pieces of err after block 1. -/
theorem pieces6_1 : kernelRun0_A.sl.H6_2 c arg1 harg1 arg2 harg2 arg3 harg3 arg4 harg4 arg5 harg5 arg7 x0 x1 x2 x3 x4 = ⟨Rect.unit (s := S1x384x2560) ![0, 0, 256] S1x384x256.size inb_S1x384x2560_S1x384x256_0_0_256,
    errNext 256 shapeCasts_S1x384x256_S384x256 (View.readAt (Elt F) arg1.view (Rect.unit (s := S1x384x2560) ![0, 0, 256] S1x384x256.size inb_S1x384x2560_S1x384x256_0_0_256).toLoadRect (harg1.unread x0))
      (qblk (View.readAt (Elt F) arg2.view (Rect.unit (s := S1x384x1280) ![0, 0, 128] S1x384x128.size inb_S1x384x1280_S1x384x128_0_0_128).toLoadRect (harg2.unread x1))
      (View.readAt (Elt F) arg3.view (Rect.unit (s := S1x20x256) ![0, 2, 0] S1x1x256.size inb_S1x20x256_S1x1x256_0_2_0).toLoadRect (harg3.unread x2))
      (View.readAt (Elt F) arg3.view (Rect.unit (s := S1x20x256) ![0, 3, 0] S1x1x256.size inb_S1x20x256_S1x1x256_0_3_0).toLoadRect (harg3.unread x2)))
      (arg7.view.readCov (kernelRun0_A.sl.H6_1 c arg1 harg1 arg2 harg2 arg3 harg3 arg5 harg5 x0 x1 x2 x4) (Rect.unit (s := S1x384x2560) ![0, 0, 0] S1x384x256.size inb_S1x384x2560_S1x384x256_0_0_0).toLoadRect)
      (View.readAt (Elt F) arg4.view (Rect.unit (s := S2560x2560) ![0, 256] S256x256.size inb_S2560x2560_S256x256_0_256).toLoadRect (harg4.unread x3))
      (View.readAt (Elt F) arg5.view (Rect.unit (s := S10x256x256) ![1, 0, 0] S1x256x256.size inb_S10x256x256_S1x256x256_1_0_0).toLoadRect (harg5.unread x4))⟩ :: kernelRun0_A.sl.H6_1 c arg1 harg1 arg2 harg2 arg3 harg3 arg5 harg5 x0 x1 x2 x4 := rfl

/-- The pieces of err after block 2. -/
theorem pieces6_2 : kernelRun0_A.sl.H6_3 c arg1 harg1 arg2 harg2 arg3 harg3 arg4 harg4 arg5 harg5 arg7 x0 x1 x2 x3 x4 = ⟨Rect.unit (s := S1x384x2560) ![0, 0, 512] S1x384x256.size inb_S1x384x2560_S1x384x256_0_0_512,
    errNext 512 shapeCasts_S1x384x512_S384x512 (View.readAt (Elt F) arg1.view (Rect.unit (s := S1x384x2560) ![0, 0, 512] S1x384x256.size inb_S1x384x2560_S1x384x256_0_0_512).toLoadRect (harg1.unread x0))
      (qblk (View.readAt (Elt F) arg2.view (Rect.unit (s := S1x384x1280) ![0, 0, 256] S1x384x128.size inb_S1x384x1280_S1x384x128_0_0_256).toLoadRect (harg2.unread x1))
      (View.readAt (Elt F) arg3.view (Rect.unit (s := S1x20x256) ![0, 4, 0] S1x1x256.size inb_S1x20x256_S1x1x256_0_4_0).toLoadRect (harg3.unread x2))
      (View.readAt (Elt F) arg3.view (Rect.unit (s := S1x20x256) ![0, 5, 0] S1x1x256.size inb_S1x20x256_S1x1x256_0_5_0).toLoadRect (harg3.unread x2)))
      (arg7.view.readCov (kernelRun0_A.sl.H6_2 c arg1 harg1 arg2 harg2 arg3 harg3 arg4 harg4 arg5 harg5 arg7 x0 x1 x2 x3 x4) (Rect.unit (s := S1x384x2560) ![0, 0, 0] S1x384x512.size inb_S1x384x2560_S1x384x512_0_0_0).toLoadRect)
      (View.readAt (Elt F) arg4.view (Rect.unit (s := S2560x2560) ![0, 512] S512x256.size inb_S2560x2560_S512x256_0_512).toLoadRect (harg4.unread x3))
      (View.readAt (Elt F) arg5.view (Rect.unit (s := S10x256x256) ![2, 0, 0] S1x256x256.size inb_S10x256x256_S1x256x256_2_0_0).toLoadRect (harg5.unread x4))⟩ :: kernelRun0_A.sl.H6_2 c arg1 harg1 arg2 harg2 arg3 harg3 arg4 harg4 arg5 harg5 arg7 x0 x1 x2 x3 x4 := rfl

/-- The pieces of err after block 3. -/
theorem pieces6_3 : kernelRun0_A.sl.H6_4 c arg1 harg1 arg2 harg2 arg3 harg3 arg4 harg4 arg5 harg5 arg7 x0 x1 x2 x3 x4 = ⟨Rect.unit (s := S1x384x2560) ![0, 0, 768] S1x384x256.size inb_S1x384x2560_S1x384x256_0_0_768,
    errNext 768 shapeCasts_S1x384x768_S384x768 (View.readAt (Elt F) arg1.view (Rect.unit (s := S1x384x2560) ![0, 0, 768] S1x384x256.size inb_S1x384x2560_S1x384x256_0_0_768).toLoadRect (harg1.unread x0))
      (qblk (View.readAt (Elt F) arg2.view (Rect.unit (s := S1x384x1280) ![0, 0, 384] S1x384x128.size inb_S1x384x1280_S1x384x128_0_0_384).toLoadRect (harg2.unread x1))
      (View.readAt (Elt F) arg3.view (Rect.unit (s := S1x20x256) ![0, 6, 0] S1x1x256.size inb_S1x20x256_S1x1x256_0_6_0).toLoadRect (harg3.unread x2))
      (View.readAt (Elt F) arg3.view (Rect.unit (s := S1x20x256) ![0, 7, 0] S1x1x256.size inb_S1x20x256_S1x1x256_0_7_0).toLoadRect (harg3.unread x2)))
      (arg7.view.readCov (kernelRun0_A.sl.H6_3 c arg1 harg1 arg2 harg2 arg3 harg3 arg4 harg4 arg5 harg5 arg7 x0 x1 x2 x3 x4) (Rect.unit (s := S1x384x2560) ![0, 0, 0] S1x384x768.size inb_S1x384x2560_S1x384x768_0_0_0).toLoadRect)
      (View.readAt (Elt F) arg4.view (Rect.unit (s := S2560x2560) ![0, 768] S768x256.size inb_S2560x2560_S768x256_0_768).toLoadRect (harg4.unread x3))
      (View.readAt (Elt F) arg5.view (Rect.unit (s := S10x256x256) ![3, 0, 0] S1x256x256.size inb_S10x256x256_S1x256x256_3_0_0).toLoadRect (harg5.unread x4))⟩ :: kernelRun0_A.sl.H6_3 c arg1 harg1 arg2 harg2 arg3 harg3 arg4 harg4 arg5 harg5 arg7 x0 x1 x2 x3 x4 := rfl

/-- The pieces of err after block 4. -/
theorem pieces6_4 : kernelRun0_A.sl.H6_5 c arg1 harg1 arg2 harg2 arg3 harg3 arg4 harg4 arg5 harg5 arg7 x0 x1 x2 x3 x4 = ⟨Rect.unit (s := S1x384x2560) ![0, 0, 1024] S1x384x256.size inb_S1x384x2560_S1x384x256_0_0_1024,
    errNext 1024 shapeCasts_S1x384x1024_S384x1024 (View.readAt (Elt F) arg1.view (Rect.unit (s := S1x384x2560) ![0, 0, 1024] S1x384x256.size inb_S1x384x2560_S1x384x256_0_0_1024).toLoadRect (harg1.unread x0))
      (qblk (View.readAt (Elt F) arg2.view (Rect.unit (s := S1x384x1280) ![0, 0, 512] S1x384x128.size inb_S1x384x1280_S1x384x128_0_0_512).toLoadRect (harg2.unread x1))
      (View.readAt (Elt F) arg3.view (Rect.unit (s := S1x20x256) ![0, 8, 0] S1x1x256.size inb_S1x20x256_S1x1x256_0_8_0).toLoadRect (harg3.unread x2))
      (View.readAt (Elt F) arg3.view (Rect.unit (s := S1x20x256) ![0, 9, 0] S1x1x256.size inb_S1x20x256_S1x1x256_0_9_0).toLoadRect (harg3.unread x2)))
      (arg7.view.readCov (kernelRun0_A.sl.H6_4 c arg1 harg1 arg2 harg2 arg3 harg3 arg4 harg4 arg5 harg5 arg7 x0 x1 x2 x3 x4) (Rect.unit (s := S1x384x2560) ![0, 0, 0] S1x384x1024.size inb_S1x384x2560_S1x384x1024_0_0_0).toLoadRect)
      (View.readAt (Elt F) arg4.view (Rect.unit (s := S2560x2560) ![0, 1024] S1024x256.size inb_S2560x2560_S1024x256_0_1024).toLoadRect (harg4.unread x3))
      (View.readAt (Elt F) arg5.view (Rect.unit (s := S10x256x256) ![4, 0, 0] S1x256x256.size inb_S10x256x256_S1x256x256_4_0_0).toLoadRect (harg5.unread x4))⟩ :: kernelRun0_A.sl.H6_4 c arg1 harg1 arg2 harg2 arg3 harg3 arg4 harg4 arg5 harg5 arg7 x0 x1 x2 x3 x4 := rfl

/-- The pieces of err after block 5. -/
theorem pieces6_5 : kernelRun0_A.sl.H6_6 c arg1 harg1 arg2 harg2 arg3 harg3 arg4 harg4 arg5 harg5 arg7 x0 x1 x2 x3 x4 = ⟨Rect.unit (s := S1x384x2560) ![0, 0, 1280] S1x384x256.size inb_S1x384x2560_S1x384x256_0_0_1280,
    errNext 1280 shapeCasts_S1x384x1280_S384x1280 (View.readAt (Elt F) arg1.view (Rect.unit (s := S1x384x2560) ![0, 0, 1280] S1x384x256.size inb_S1x384x2560_S1x384x256_0_0_1280).toLoadRect (harg1.unread x0))
      (qblk (View.readAt (Elt F) arg2.view (Rect.unit (s := S1x384x1280) ![0, 0, 640] S1x384x128.size inb_S1x384x1280_S1x384x128_0_0_640).toLoadRect (harg2.unread x1))
      (View.readAt (Elt F) arg3.view (Rect.unit (s := S1x20x256) ![0, 10, 0] S1x1x256.size inb_S1x20x256_S1x1x256_0_10_0).toLoadRect (harg3.unread x2))
      (View.readAt (Elt F) arg3.view (Rect.unit (s := S1x20x256) ![0, 11, 0] S1x1x256.size inb_S1x20x256_S1x1x256_0_11_0).toLoadRect (harg3.unread x2)))
      (arg7.view.readCov (kernelRun0_A.sl.H6_5 c arg1 harg1 arg2 harg2 arg3 harg3 arg4 harg4 arg5 harg5 arg7 x0 x1 x2 x3 x4) (Rect.unit (s := S1x384x2560) ![0, 0, 0] S1x384x1280.size inb_S1x384x2560_S1x384x1280_0_0_0).toLoadRect)
      (View.readAt (Elt F) arg4.view (Rect.unit (s := S2560x2560) ![0, 1280] S1280x256.size inb_S2560x2560_S1280x256_0_1280).toLoadRect (harg4.unread x3))
      (View.readAt (Elt F) arg5.view (Rect.unit (s := S10x256x256) ![5, 0, 0] S1x256x256.size inb_S10x256x256_S1x256x256_5_0_0).toLoadRect (harg5.unread x4))⟩ :: kernelRun0_A.sl.H6_5 c arg1 harg1 arg2 harg2 arg3 harg3 arg4 harg4 arg5 harg5 arg7 x0 x1 x2 x3 x4 := rfl

/-- The pieces of err after block 6. -/
theorem pieces6_6 : kernelRun0_A.sl.H6_7 c arg1 harg1 arg2 harg2 arg3 harg3 arg4 harg4 arg5 harg5 arg7 x0 x1 x2 x3 x4 = ⟨Rect.unit (s := S1x384x2560) ![0, 0, 1536] S1x384x256.size inb_S1x384x2560_S1x384x256_0_0_1536,
    errNext 1536 shapeCasts_S1x384x1536_S384x1536 (View.readAt (Elt F) arg1.view (Rect.unit (s := S1x384x2560) ![0, 0, 1536] S1x384x256.size inb_S1x384x2560_S1x384x256_0_0_1536).toLoadRect (harg1.unread x0))
      (qblk (View.readAt (Elt F) arg2.view (Rect.unit (s := S1x384x1280) ![0, 0, 768] S1x384x128.size inb_S1x384x1280_S1x384x128_0_0_768).toLoadRect (harg2.unread x1))
      (View.readAt (Elt F) arg3.view (Rect.unit (s := S1x20x256) ![0, 12, 0] S1x1x256.size inb_S1x20x256_S1x1x256_0_12_0).toLoadRect (harg3.unread x2))
      (View.readAt (Elt F) arg3.view (Rect.unit (s := S1x20x256) ![0, 13, 0] S1x1x256.size inb_S1x20x256_S1x1x256_0_13_0).toLoadRect (harg3.unread x2)))
      (arg7.view.readCov (kernelRun0_A.sl.H6_6 c arg1 harg1 arg2 harg2 arg3 harg3 arg4 harg4 arg5 harg5 arg7 x0 x1 x2 x3 x4) (Rect.unit (s := S1x384x2560) ![0, 0, 0] S1x384x1536.size inb_S1x384x2560_S1x384x1536_0_0_0).toLoadRect)
      (View.readAt (Elt F) arg4.view (Rect.unit (s := S2560x2560) ![0, 1536] S1536x256.size inb_S2560x2560_S1536x256_0_1536).toLoadRect (harg4.unread x3))
      (View.readAt (Elt F) arg5.view (Rect.unit (s := S10x256x256) ![6, 0, 0] S1x256x256.size inb_S10x256x256_S1x256x256_6_0_0).toLoadRect (harg5.unread x4))⟩ :: kernelRun0_A.sl.H6_6 c arg1 harg1 arg2 harg2 arg3 harg3 arg4 harg4 arg5 harg5 arg7 x0 x1 x2 x3 x4 := rfl

/-- The pieces of err after block 7. -/
theorem pieces6_7 : kernelRun0_A.sl.H6_8 c arg1 harg1 arg2 harg2 arg3 harg3 arg4 harg4 arg5 harg5 arg7 x0 x1 x2 x3 x4 = ⟨Rect.unit (s := S1x384x2560) ![0, 0, 1792] S1x384x256.size inb_S1x384x2560_S1x384x256_0_0_1792,
    errNext 1792 shapeCasts_S1x384x1792_S384x1792 (View.readAt (Elt F) arg1.view (Rect.unit (s := S1x384x2560) ![0, 0, 1792] S1x384x256.size inb_S1x384x2560_S1x384x256_0_0_1792).toLoadRect (harg1.unread x0))
      (qblk (View.readAt (Elt F) arg2.view (Rect.unit (s := S1x384x1280) ![0, 0, 896] S1x384x128.size inb_S1x384x1280_S1x384x128_0_0_896).toLoadRect (harg2.unread x1))
      (View.readAt (Elt F) arg3.view (Rect.unit (s := S1x20x256) ![0, 14, 0] S1x1x256.size inb_S1x20x256_S1x1x256_0_14_0).toLoadRect (harg3.unread x2))
      (View.readAt (Elt F) arg3.view (Rect.unit (s := S1x20x256) ![0, 15, 0] S1x1x256.size inb_S1x20x256_S1x1x256_0_15_0).toLoadRect (harg3.unread x2)))
      (arg7.view.readCov (kernelRun0_A.sl.H6_7 c arg1 harg1 arg2 harg2 arg3 harg3 arg4 harg4 arg5 harg5 arg7 x0 x1 x2 x3 x4) (Rect.unit (s := S1x384x2560) ![0, 0, 0] S1x384x1792.size inb_S1x384x2560_S1x384x1792_0_0_0).toLoadRect)
      (View.readAt (Elt F) arg4.view (Rect.unit (s := S2560x2560) ![0, 1792] S1792x256.size inb_S2560x2560_S1792x256_0_1792).toLoadRect (harg4.unread x3))
      (View.readAt (Elt F) arg5.view (Rect.unit (s := S10x256x256) ![7, 0, 0] S1x256x256.size inb_S10x256x256_S1x256x256_7_0_0).toLoadRect (harg5.unread x4))⟩ :: kernelRun0_A.sl.H6_7 c arg1 harg1 arg2 harg2 arg3 harg3 arg4 harg4 arg5 harg5 arg7 x0 x1 x2 x3 x4 := rfl

/-- The pieces of err after block 8. -/
theorem pieces6_8 : kernelRun0_A.sl.H6_9 c arg1 harg1 arg2 harg2 arg3 harg3 arg4 harg4 arg5 harg5 arg7 x0 x1 x2 x3 x4 = ⟨Rect.unit (s := S1x384x2560) ![0, 0, 2048] S1x384x256.size inb_S1x384x2560_S1x384x256_0_0_2048,
    errNext 2048 shapeCasts_S1x384x2048_S384x2048 (View.readAt (Elt F) arg1.view (Rect.unit (s := S1x384x2560) ![0, 0, 2048] S1x384x256.size inb_S1x384x2560_S1x384x256_0_0_2048).toLoadRect (harg1.unread x0))
      (qblk (View.readAt (Elt F) arg2.view (Rect.unit (s := S1x384x1280) ![0, 0, 1024] S1x384x128.size inb_S1x384x1280_S1x384x128_0_0_1024).toLoadRect (harg2.unread x1))
      (View.readAt (Elt F) arg3.view (Rect.unit (s := S1x20x256) ![0, 16, 0] S1x1x256.size inb_S1x20x256_S1x1x256_0_16_0).toLoadRect (harg3.unread x2))
      (View.readAt (Elt F) arg3.view (Rect.unit (s := S1x20x256) ![0, 17, 0] S1x1x256.size inb_S1x20x256_S1x1x256_0_17_0).toLoadRect (harg3.unread x2)))
      (arg7.view.readCov (kernelRun0_A.sl.H6_8 c arg1 harg1 arg2 harg2 arg3 harg3 arg4 harg4 arg5 harg5 arg7 x0 x1 x2 x3 x4) (Rect.unit (s := S1x384x2560) ![0, 0, 0] S1x384x2048.size inb_S1x384x2560_S1x384x2048_0_0_0).toLoadRect)
      (View.readAt (Elt F) arg4.view (Rect.unit (s := S2560x2560) ![0, 2048] S2048x256.size inb_S2560x2560_S2048x256_0_2048).toLoadRect (harg4.unread x3))
      (View.readAt (Elt F) arg5.view (Rect.unit (s := S10x256x256) ![8, 0, 0] S1x256x256.size inb_S10x256x256_S1x256x256_8_0_0).toLoadRect (harg5.unread x4))⟩ :: kernelRun0_A.sl.H6_8 c arg1 harg1 arg2 harg2 arg3 harg3 arg4 harg4 arg5 harg5 arg7 x0 x1 x2 x3 x4 := rfl

/-- The pieces of err after block 9. -/
theorem pieces6_9 : (kernelRun0_A c i arg1 harg1 arg2 harg2 arg3 harg3 arg4 harg4 arg5 harg5 arg6 harg6 arg7 harg7 x0 x1 x2 x3 x4).2.1 = ⟨Rect.unit (s := S1x384x2560) ![0, 0, 2304] S1x384x256.size inb_S1x384x2560_S1x384x256_0_0_2304,
    errNext 2304 shapeCasts_S1x384x2304_S384x2304 (View.readAt (Elt F) arg1.view (Rect.unit (s := S1x384x2560) ![0, 0, 2304] S1x384x256.size inb_S1x384x2560_S1x384x256_0_0_2304).toLoadRect (harg1.unread x0))
      (qblk (View.readAt (Elt F) arg2.view (Rect.unit (s := S1x384x1280) ![0, 0, 1152] S1x384x128.size inb_S1x384x1280_S1x384x128_0_0_1152).toLoadRect (harg2.unread x1))
      (View.readAt (Elt F) arg3.view (Rect.unit (s := S1x20x256) ![0, 18, 0] S1x1x256.size inb_S1x20x256_S1x1x256_0_18_0).toLoadRect (harg3.unread x2))
      (View.readAt (Elt F) arg3.view (Rect.unit (s := S1x20x256) ![0, 19, 0] S1x1x256.size inb_S1x20x256_S1x1x256_0_19_0).toLoadRect (harg3.unread x2)))
      (arg7.view.readCov (kernelRun0_A.sl.H6_9 c arg1 harg1 arg2 harg2 arg3 harg3 arg4 harg4 arg5 harg5 arg7 x0 x1 x2 x3 x4) (Rect.unit (s := S1x384x2560) ![0, 0, 0] S1x384x2304.size inb_S1x384x2560_S1x384x2304_0_0_0).toLoadRect)
      (View.readAt (Elt F) arg4.view (Rect.unit (s := S2560x2560) ![0, 2304] S2304x256.size inb_S2560x2560_S2304x256_0_2304).toLoadRect (harg4.unread x3))
      (View.readAt (Elt F) arg5.view (Rect.unit (s := S10x256x256) ![9, 0, 0] S1x256x256.size inb_S10x256x256_S1x256x256_9_0_0).toLoadRect (harg5.unread x4))⟩ :: kernelRun0_A.sl.H6_9 c arg1 harg1 arg2 harg2 arg3 harg3 arg4 harg4 arg5 harg5 arg7 x0 x1 x2 x3 x4 := by
  unfold kernelRun0_A; dsimp only
  refine congrArg₂ List.cons ?_ rfl
  rfl

end Pieces

end Cert.KernelIdeal.Solve

end
-- ==== Proof.Recurrence.lean ====
/-
  The column recurrence over the reals, and the blocked solve. `state r U k` is the row `r` after `k` steps of the
  reference's loop; `sol r U l` is what the loop leaves in column `l`. `sol_blocked`: a block of the solution is what is
  left of the row over that block's columns, times the inverse of the diagonal block's upper triangle.
-/
module

public import Mathlib.Data.Real.Basic
public import Mathlib.Algebra.BigOperators.Ring.Finset
public import Mathlib.Algebra.BigOperators.Intervals
public import Mathlib.Tactic.Ring
public import Mathlib.Tactic.FieldSimp
public import Mathlib.Tactic.Linarith

@[expose] public section

noncomputable section

namespace Cert.Recurrence

open Finset

variable (r : ℕ → ℝ) (U : ℕ → ℕ → ℝ)

/-- The row after `k` steps: step `k` divides column `k` by the diagonal and takes the quotient times row `k` of `U` off
    the later columns. -/
def state : ℕ → ℕ → ℝ
  | 0, l => r l
  | k + 1, l => if l = k then state k k / U k k
      else state k l - (state k k / U k k) * (if k < l then U k l else 0)

/-- What the loop leaves in column `l`. -/
def sol (l : ℕ) : ℝ := state r U l l / U l l

/-- A column already divided keeps its value. -/
theorem state_done (l k : ℕ) (h : l < k) : state r U k l = sol r U l := by
  induction k with
  | zero => omega
  | succ k ih =>
    rcases Nat.lt_succ_iff_lt_or_eq.1 h with h' | h'
    · rw [state, if_neg (by omega), if_neg (by omega), ih h']; ring
    · subst h'; rw [state, if_pos rfl]; rfl

/-- A column not yet divided has lost the products of the columns before. -/
theorem state_left (k l : ℕ) (h : k ≤ l) : state r U k l = r l - ∑ i ∈ range k, sol r U i * U i l := by
  induction k with
  | zero => simp [state]
  | succ k ih =>
    rw [state, if_neg (by omega), if_pos (by omega), ih (by omega), sum_range_succ, sol]; ring

/-- The solution satisfies the triangular system. -/
theorem sol_system (l : ℕ) (h : U l l ≠ 0) : r l = ∑ i ∈ range (l + 1), sol r U i * U i l := by
  have e : sol r U l * U l l = state r U l l := by rw [sol]; field_simp
  rw [sum_range_succ, e, state_left r U l l le_rfl]; ring

/-- The solution of a block: what the columns before leave of the row, times the inverse of the diagonal block's upper
    triangle. -/
theorem sol_blocked (b n : ℕ) (V : ℕ → ℕ → ℝ) (hU : ∀ l, l < b + n → U l l ≠ 0) (d : ℕ) (hd : d < n)
    (hV : ∀ i, i < n → ∑ c ∈ range n, (if i ≤ c then U (b + i) (b + c) else 0) * V c d = if i = d then 1 else 0) :
    ∑ c ∈ range n, (r (b + c) - ∑ i ∈ range b, sol r U i * U i (b + c)) * V c d = sol r U (b + d) := by
  have hs : ∀ c ∈ range n, r (b + c) - ∑ i ∈ range b, sol r U i * U i (b + c)
      = ∑ i ∈ range n, sol r U (b + i) * (if i ≤ c then U (b + i) (b + c) else 0) := by
    intro c hc
    have hc' : c < n := mem_range.1 hc
    rw [sol_system r U (b + c) (hU _ (by omega)), Nat.add_assoc, sum_range_add, add_sub_cancel_left]
    have : n = (c + 1) + (n - (c + 1)) := by omega
    rw [this, sum_range_add _ (c + 1) (n - (c + 1))]
    rw [sum_congr rfl (g := fun i => sol r U (b + i) * (if i ≤ c then U (b + i) (b + c) else 0))
      (fun i hi => by rw [if_pos (by have := mem_range.1 hi; omega)])]
    rw [sum_eq_zero (s := range (n - (c + 1))) (fun i _ => by rw [if_neg (by omega), mul_zero]), add_zero]
  calc _ = ∑ c ∈ range n, ∑ i ∈ range n, sol r U (b + i) * ((if i ≤ c then U (b + i) (b + c) else 0) * V c d) :=
        sum_congr rfl fun c hc => by rw [hs c hc, sum_mul]; exact sum_congr rfl fun i _ => by ring
    _ = ∑ i ∈ range n, sol r U (b + i) * (if i = d then 1 else 0) := by
        rw [sum_comm]; exact sum_congr rfl fun i hi => by rw [← mul_sum, hV i (mem_range.1 hi)]
    _ = sol r U (b + d) := by
        rw [sum_eq_single d (fun i _ h => by rw [if_neg h, mul_zero]) (fun h => absurd (mem_range.2 hd) h), if_pos rfl, mul_one]

end Cert.Recurrence

end
-- ==== Proof.ErrBlock.lean ====
/-
  A block of err is the recurrence's solution over the block's columns, once the columns before hold it.
-/
module

public import proofs.«01_k».proof.Proof.Vocab
public import proofs.«01_k».proof.Proof.Recurrence
public import Idealize.ShloMosaic.Lib.Pointwise
public import Idealize.ShloMosaic.Lib.MatmulPlain
public import Idealize.ShloMosaic.Lib.ValueLayout
public import Idealize.ShloMosaic.Lib.Pipeline.Value

@[expose] public section

set_option synthInstance.maxSize 4096
set_option maxRecDepth 100000

noncomputable section

namespace Cert.KernelIdeal.Solve

open Cert.KernelIdeal Cert.KernelIdeal.Gen Idealize.ShloMosaic Idealize.ShloMosaic.TcCoe Idealize.SL.Sem
open Cert.Recurrence

/-- A sum of reals, as extended reals. -/
theorem coe_sum {n : ℕ} (f : Fin n → EReal) (g : ℕ → ℝ) (h : ∀ i : Fin n, f i = ((g i.val : ℝ) : EReal)) :
    ∑ i : Fin n, f i = ((∑ i ∈ Finset.range n, g i : ℝ) : EReal) := by
  induction n with
  | zero => simp
  | succ n ih =>
    rw [Fin.sum_univ_castSucc, Finset.sum_range_succ, EReal.coe_add, ih (fun i => f i.castSucc) (fun i => h i.castSucc), h (Fin.last n)]
    rfl

theorem add_unit {α : Type} (x : S384x256.Idx → α) (r : Fin 384) (d : Fin 256) :
    shapeCast S1x384x256 x shapeCasts_S384x256_S1x384x256 (ix3 (0 : Fin 1) r d) = x (ix2 r d) := by
  pointwise

theorem drop_w {α : Type} (x : S1x384x256.Idx → α) (r : Fin 384) (d : Fin 256) :
    shapeCast S384x256 x shapeCasts_S1x384x256_S384x256 (ix2 r d) = x (ix3 (0 : Fin 1) r d) := by
  pointwise

theorem drop_v {α : Type} (x : S1x256x256.Idx → α) (c d : Fin 256) :
    shapeCast S256x256 x shapeCasts_S1x256x256_S256x256 (ix2 c d) = x (ix3 (0 : Fin 1) c d) := by
  pointwise

theorem drop_e {α : Type} (K : ℕ) (h : (⟨3, ![1, 384, K]⟩ : Shape).ShapeCasts ⟨2, ![384, K]⟩) (x : (⟨3, ![1, 384, K]⟩ : Shape).Idx → α) (r : Fin 384) (i : Fin K) :
    shapeCast ⟨2, ![384, K]⟩ x h (ix2 r i) = x (ix3 (0 : Fin 1) r i) := by
  exact congrArg x ((Shape.reshapeEquiv_eq_of_rowMajor h (by
    rw [Shape.rowMajor_val_three, Shape.rowMajor_val_two]
    show ((0 * 384 + r.val) * K + i.val) = r.val * K + i.val
    simp only [Nat.zero_mul, Nat.zero_add])) : Shape.reshapeEquiv h (ix2 r i) = ix3 (0 : Fin 1) r i)

theorem zero_const (i : S384x256.Idx) : (constant S384x256 .f32 0x00000000#32 : FVec Ideal S384x256 .f32) i = (0 : EReal) := Ideal.ofBits_zero .f32

/-- A residual block times its inverse block, over the reals. -/
theorem timesInv_val (x : FVec Ideal S384x256 .f32) (vb : FVec Ideal S1x256x256 .f32) (X : ℕ → ℝ) (V : ℕ → ℕ → ℝ) (r : Fin 384)
    (hx : ∀ c : Fin 256, (x (ix2 r c) : EReal) = ((X c.val : ℝ) : EReal)) (hv : ∀ c d : Fin 256, (vb (ix3 (0 : Fin 1) c d) : EReal) = ((V c.val d.val : ℝ) : EReal)) (d : Fin 256) :
    (timesInv x vb (ix3 (0 : Fin 1) r d) : EReal) = ((∑ c ∈ Finset.range 256, X c * V c d.val : ℝ) : EReal) := by
  unfold timesInv
  rw [add_unit]
  refine (Ideal.matmul_plain_apply (some .fp32) x _ _ r d).trans ?_
  rw [zero_const]
  refine (zero_add _).trans (coe_sum _ (fun c => X c * V c d.val) fun c => ?_)
  rw [EReal.coe_mul]
  exact congrArg₂ (· * ·) (hx c) ((drop_v vb c d).trans (hv c d))

variable (R : Fin 384 → ℕ → ℝ) (U : ℕ → ℕ → ℝ)

/-- err, over one matrix. -/
def goal : S1x384x2560.Idx → Elt Ideal .f32 := fun y => ((sol (R (y 1)) U (y 2).val : ℝ) : EReal)

/-- The pieces hold err, and cover the columns below `K`. -/
def Good (L : List (View.Piece (Elt Ideal) S1x384x2560 .f32)) (K : ℕ) : Prop :=
  (∀ p ∈ L, ∀ x : p.1.shape.Idx, p.2 x = goal R U (p.1.emb x)) ∧ ∀ y : S1x384x2560.Idx, (y 2).val < K → ∃ p ∈ L, y ∈ p.1.set

theorem good_nil : Good R U [] 0 := ⟨fun p hp => absurd hp List.not_mem_nil, fun y h => absurd h (Nat.not_lt_zero _)⟩

theorem good_cons (L : List (View.Piece (Elt Ideal) S1x384x2560 .f32)) (K : ℕ) (hL : Good R U L K)
    (inb : ∀ a, (![0, 0, K] : Fin 3 → ℕ) a + S1x384x256.size a ≤ S1x384x2560.size a) (w : FVec Ideal S1x384x256 .f32)
    (hw : ∀ (r : Fin 384) (d : Fin 256), (w (ix3 (0 : Fin 1) r d) : EReal) = ((sol (R r) U (K + d.val) : ℝ) : EReal)) :
    Good R U (⟨Rect.unit (s := S1x384x2560) ![0, 0, K] S1x384x256.size inb, w⟩ :: L) (K + 256) := by
  refine ⟨fun p hp x => ?_, fun y hy => ?_⟩
  · rcases List.mem_cons.1 hp with rfl | hp
    · obtain ⟨a, r, d, rfl⟩ : ∃ (a : Fin 1) (r : Fin 384) (d : Fin 256), x = ix3 a r d := ⟨x 0, x 1, x 2, eq_ix3 x⟩
      obtain rfl : a = 0 := Subsingleton.elim _ _
      refine (hw r d).trans ?_
      unfold goal
      have e1 : (Rect.unit (s := S1x384x2560) ![0, 0, K] S1x384x256.size inb).emb (ix3 (0 : Fin 1) r d) 1 = r := Fin.ext (by
        show 0 + 1 * r.val = r.val; omega)
      have e2 : ((Rect.unit (s := S1x384x2560) ![0, 0, K] S1x384x256.size inb).emb (ix3 (0 : Fin 1) r d) 2).val = K + d.val := by
        show K + 1 * d.val = K + d.val; omega
      rw [e1, e2]
    · exact hL.1 p hp x
  · by_cases h : (y 2).val < K
    · obtain ⟨p, hp, h⟩ := hL.2 y h
      exact ⟨p, List.mem_cons_of_mem _ hp, h⟩
    · refine ⟨_, List.mem_cons_self, (Rect.mem_set_unit (inb := inb)).2 fun a => ?_⟩
      match a with
      | ⟨0, _⟩ => exact ⟨Nat.zero_le _, (y 0).isLt⟩
      | ⟨1, _⟩ => exact ⟨Nat.zero_le _, (show (y 1).val < 0 + 384 from (by have := (y 1).isLt; exact lt_of_lt_of_eq this (by rfl)))⟩
      | ⟨2, _⟩ => exact ⟨Nat.le_of_not_lt h, hy⟩

/-- The first block. -/
theorem err_first (V : ℕ → ℕ → ℝ) (wb : FVec Ideal S1x384x256 .bf16) (q : FVec Ideal S384x256 .f32) (vb : FVec Ideal S1x256x256 .f32)
    (hw : ∀ (r : Fin 384) (c : Fin 256), (wb (ix3 (0 : Fin 1) r c) : EReal) - q (ix2 r c) = ((R r (0 + c.val) : ℝ) : EReal))
    (hv : ∀ c d : Fin 256, (vb (ix3 (0 : Fin 1) c d) : EReal) = ((V c.val d.val : ℝ) : EReal))
    (hd : ∀ l, l < 2560 → U l l ≠ 0)
    (hV : ∀ i d, i < 256 → d < 256 → ∑ c ∈ Finset.range 256, (if i ≤ c then U (0 + i) (0 + c) else 0) * V c d = if i = d then 1 else 0)
    (inb : ∀ a, (![0, 0, 0] : Fin 3 → ℕ) a + S1x384x256.size a ≤ S1x384x2560.size a) :
    Good R U (⟨Rect.unit (s := S1x384x2560) ![0, 0, 0] S1x384x256.size inb, errFirst wb q vb⟩ :: []) (0 + 256) := by
  refine good_cons R U _ 0 (good_nil R U) inb _ fun r d => ?_
  unfold errFirst
  rw [← sol_blocked (R r) U 0 256 V (fun l hl => hd l (by omega)) d.val d.isLt (fun i hi => hV i _ hi d.isLt)]
  refine timesInv_val _ vb _ V r (fun c => ?_) hv d
  simp only [Finset.range_zero, Finset.sum_empty, sub_zero]
  refine Eq.trans ?_ (hw r c)
  unfold resid
  exact congrArg (fun z : EReal => z - q (ix2 r c)) (drop_w wb r c)

/-- A later block. -/
theorem err_next (K : ℕ) (hK : K + 256 ≤ 2560) (V : ℕ → ℕ → ℝ) (L : List (View.Piece (Elt Ideal) S1x384x2560 .f32)) (hL : Good R U L K)
    (arg7 : Memref sig .tc .vmem S1x384x2560 .f32)
    (h : (⟨3, ![1, 384, K]⟩ : Shape).ShapeCasts ⟨2, ![384, K]⟩) (wb : FVec Ideal S1x384x256 .bf16) (q : FVec Ideal S384x256 .f32)
    (ub : FVec Ideal ⟨2, ![K, 256]⟩ .f32) (vb : FVec Ideal S1x256x256 .f32)
    (inb' : ∀ a, (![0, 0, 0] : Fin 3 → ℕ) a + (⟨3, ![1, 384, K]⟩ : Shape).size a ≤ S1x384x2560.size a)
    (hw : ∀ (r : Fin 384) (c : Fin 256), (wb (ix3 (0 : Fin 1) r c) : EReal) - q (ix2 r c) = ((R r (K + c.val) : ℝ) : EReal))
    (hu : ∀ (i : Fin K) (c : Fin 256), (ub (ix2 i c) : EReal) = ((U i.val (K + c.val) : ℝ) : EReal))
    (hv : ∀ c d : Fin 256, (vb (ix3 (0 : Fin 1) c d) : EReal) = ((V c.val d.val : ℝ) : EReal))
    (hd : ∀ l, l < 2560 → U l l ≠ 0)
    (hV : ∀ i d, i < 256 → d < 256 → ∑ c ∈ Finset.range 256, (if i ≤ c then U (K + i) (K + c) else 0) * V c d = if i = d then 1 else 0)
    (inb : ∀ a, (![0, 0, K] : Fin 3 → ℕ) a + S1x384x256.size a ≤ S1x384x2560.size a) :
    Good R U (⟨Rect.unit (s := S1x384x2560) ![0, 0, K] S1x384x256.size inb,
      errNext K h wb q (arg7.view.readCov L (Rect.unit (s := S1x384x2560) ![0, 0, 0] (⟨3, ![1, 384, K]⟩ : Shape).size inb').toLoadRect) ub vb⟩ :: L) (K + 256) := by
  refine good_cons R U _ K hL inb _ fun r d => ?_
  have he : ∀ i : Fin K, (arg7.view.readCov L (Rect.unit (s := S1x384x2560) ![0, 0, 0] (⟨3, ![1, 384, K]⟩ : Shape).size inb').toLoadRect (ix3 (0 : Fin 1) r i) : EReal)
      = ((sol (R r) U i.val : ℝ) : EReal) := by
    intro i
    have e2 : ((Rect.unit (s := S1x384x2560) ![0, 0, 0] (⟨3, ![1, 384, K]⟩ : Shape).size inb').toLoadRect.idx (ix3 (0 : Fin 1) r i) 2).val = i.val := by
      show 0 + 1 * i.val = i.val; omega
    have e1 : (Rect.unit (s := S1x384x2560) ![0, 0, 0] (⟨3, ![1, 384, K]⟩ : Shape).size inb').toLoadRect.idx (ix3 (0 : Fin 1) r i) 1 = r := Fin.ext (by
      show 0 + 1 * r.val = r.val; omega)
    rw [View.readCov_eq_canon']
    refine (View.canon_apply_of_pieces (goal R U) L hL.1 _ (hL.2 _ (lt_of_eq_of_lt e2 i.isLt))).trans ?_
    unfold goal
    rw [e1, e2]
  generalize arg7.view.readCov L (Rect.unit (s := S1x384x2560) ![0, 0, 0] (⟨3, ![1, 384, K]⟩ : Shape).size inb').toLoadRect = eb at he
  unfold errNext
  rw [← sol_blocked (R r) U K 256 V (fun l hl => hd l (by omega)) d.val d.isLt (fun i hi => hV i _ hi d.isLt)]
  refine timesInv_val _ vb _ V r (fun c => ?_) hv d
  rw [EReal.coe_sub, ← hw r c]
  unfold resid
  refine congrArg₂ (fun a b : EReal => a - b) (congrArg (fun z : EReal => z - q (ix2 r c)) (drop_w wb r c)) ?_
  refine (Ideal.matmul_plain_apply (some .fp32) _ ub _ r c).trans ?_
  rw [zero_const]
  refine (zero_add _).trans (coe_sum _ (fun i => sol (R r) U i * U i (K + c.val)) fun i => ?_)
  rw [EReal.coe_mul]
  exact congrArg₂ (· * ·) ((drop_e K h eb r i).trans (he i)) (hu i c)

end Cert.KernelIdeal.Solve

end
-- ==== Proof.Decode.lean ====
/-
  A block of q at an index: the element of the codebook pair a code names.
-/
module

public import proofs.«01_k».proof.Proof.Vocab
public import Idealize.ShloMosaic.Lib.Pointwise
public import Idealize.ShloMosaic.Lib.BitcastFour

@[expose] public section

set_option synthInstance.maxSize 4096
set_option maxRecDepth 100000

noncomputable section

namespace Cert.KernelIdeal.Solve

open Cert.KernelIdeal Cert.KernelIdeal.Gen Idealize.ShloMosaic

/-- The half-lane words: lane `l` holds `l / 2`. -/
theorem pay8_apply (a : Fin 8) (l : Fin 128) : (k0_pay8 : IVec S8x128 32) (ix2 a l) = BitVec.ofNat 32 (l.val / 2) := by
  unfold k0_pay8
  pointwise
  revert l
  decide

/-- The shifts: 16 on even lanes. -/
theorem pay9_apply (p : Fin 32) (l : Fin 128) : (k0_pay9 : IVec S32x128 32) (ix2 p l) = if l.val % 2 = 0 then 16#32 else 0#32 := by
  unfold k0_pay9
  pointwise
  revert l
  decide

/-- Words read as bytes: row `p`, lane `l`. -/
theorem bytes_apply (x : IVec S8x128 32) (h : S8x128.Bitcasts 32 S32x128 8) (p : Fin 32) (l : Fin 128) (q : ℕ) (hq : q < 8) :
    (bitcast S32x128 8 x h (ix2 p l)).getLsbD q = (x (ix2 (⟨p.val / 4, by omega⟩ : Fin 8) l)).getLsbD (8 * (p.val % 4) + q) := by
  rw [bitcast_getLsbD x h _ q hq (by decide)]
  have er : S32x128.row (ix2 p l) = p.val := rfl
  have e2 : (S32x128.row (ix2 p l) * 8 + q) % 32 = 8 * (p.val % 4) + q := by rw [er]; omega
  rw [e2]
  congr 2
  funext c
  match c with
  | ⟨0, _⟩ => exact Fin.ext ((h.srcIdx_row _ _ _ ⟨0, Nat.zero_lt_two⟩ rfl).trans (by rw [er]; show _ = p.val / 4; omega))
  | ⟨1, _⟩ => exact Fin.ext (h.srcIdx_other _ _ _ ⟨1, Nat.one_lt_two⟩ (by decide))

theorem idxs_apply (o : ℕ) (h : S384x128.Slices ![o, 0] S32x128) (ho : o + 32 ≤ 384) (codes : IVec S384x128 8) (k : ℕ) (hk : k + 64 ≤ 128) (p : Fin 32) (l : Fin 128) :
    idxs k0_pay8 (BitVec.ofNat 32 k) (bitcast S8x128 32 (extractStridedSlice S32x128 ![o, 0] codes h) bitcasts_S32x128_w8_S8x128_w32) (ix2 p l)
      = (codes (ix2 (⟨o + p.val, by omega⟩ : Fin 384) (⟨l.val / 2 + k, by omega⟩ : Fin 128))).setWidth 32 := by
  unfold idxs
  show BitVec.setWidth 32 (bitcast S32x128 8 _ _ (ix2 p l)) = _
  congr 1
  apply BitVec.eq_of_getLsbD_eq
  intro q hq
  rw [bytes_apply _ _ p l q hq]
  have hl : ∀ a : Fin 8, (shapeCast S8x128 (shapeCast S8x128x1 (addi k0_pay8 (broadcast S8x128 (BitVec.ofNat 32 k))) shapeCasts_S8x128_S8x128x1) shapeCasts_S8x128x1_S8x128 : IVec S8x128 32) (ix2 a l) = BitVec.ofNat 32 (l.val / 2 + k) := by
    intro a
    rw [shapeCast_comp, shapeCast_id]
    show IntOp.addi (k0_pay8 (ix2 a l)) (BitVec.ofNat 32 k) = _
    rw [pay8_apply]
    show BitVec.ofNat 32 (l.val / 2) + BitVec.ofNat 32 k = _
    rw [← BitVec.ofNat_add]
  have hd : ∀ (a : Fin 8) (x : IVec S8x128 32), dynamicGather 1 x (shapeCast S8x128 (shapeCast S8x128x1 (addi k0_pay8 (broadcast S8x128 (BitVec.ofNat 32 k))) shapeCasts_S8x128_S8x128x1) shapeCasts_S8x128x1_S8x128) (ix2 a l)
      = x (ix2 a (⟨l.val / 2 + k, by omega⟩ : Fin 128)) := by
    intro a x
    unfold dynamicGather
    congr 1
    funext b
    match b with
    | ⟨0, _⟩ => rfl
    | ⟨1, _⟩ =>
      refine Fin.ext ?_
      show (_ : BitVec 32).toNat % 128 = l.val / 2 + k
      rw [hl, BitVec.toNat_ofNat]
      omega
  rw [hd]
  refine (bitcast_8_32_getLsbD_ix2 _ _ (⟨p.val / 4, by omega⟩ : Fin 8) (⟨l.val / 2 + k, by omega⟩ : Fin 128) _ (by omega) p
    (by show p.val = 4 * (p.val / 4) + _; omega)).trans ?_
  have e : (8 * (p.val % 4) + q) % 8 = q := by omega
  rw [e]
  congr 1
  unfold extractStridedSlice
  congr 1
  funext b
  match b with
  | ⟨0, _⟩ => rfl
  | ⟨1, _⟩ => exact Fin.ext (Nat.zero_add (l.val / 2 + k))

/-- A table half at a lane. -/
theorem half_apply {F : FTy → Type} [FloatOps F] (off : ℕ) (h : S1x256.Slices ![0, off] S1x128) (ho : off + 128 ≤ 256) (t : Vec F S1x1x256 .i32) (a : Fin 8) (l : Fin 128) :
    half off h t (ix2 a l) = (t : IVec S1x1x256 32) (ix3 (0 : Fin 1) (0 : Fin 1) (⟨off + l.val, by omega⟩ : Fin 256)) := by
  unfold half
  pointwise

/-- The repetition over 32 rows at a row and lane. -/
theorem four_apply (x : IVec S8x128 32) (p : Fin 32) (l : Fin 128) :
    four x (ix2 p l) = x (ix2 (⟨p.val % 8, by omega⟩ : Fin 8) l) := by
  unfold four
  pointwise
  split_ifs <;> congr 2 <;> ext <;> simp <;> omega

/-- The word with the wanted element of its pair in the high half: the low half moves up on an even column. -/
def highHalf (c : ℕ) (x : BitVec 32) : BitVec 32 := (if c % 2 = 0 then x <<< (16#32) else x) &&& 4294901760#32

/-- A code below 128 is one in the lower half of its table row. -/
theorem cmp_code : ∀ b : BitVec 8, IntOp.cmpi .slt (b.setWidth 32) 128#32 = BitVec.ofBool (decide (b.toNat < 128)) := by
  decide

/-- A code's word: table entry `b` of the two halves. -/
theorem decoded_apply {F : FTy → Type} [FloatOps F] (t : Vec F S1x1x256 .i32) (idx : IVec S32x128 32) (p : Fin 32) (l : Fin 128) (b : BitVec 8)
    (hb : idx (ix2 p l) = b.setWidth 32) :
    decoded (F := F) k0_pay9 (half 0 slices_S1x256_o0_0_S1x128 t) (half 128 slices_S1x256_o0_128_S1x128 t) idx (ix2 p l)
      = FloatOps.ofBits .f32 (highHalf l.val ((t : IVec S1x1x256 32) (ix3 (0 : Fin 1) (0 : Fin 1) (⟨b.toNat, b.isLt⟩ : Fin 256)))) := by
  have hlow : lows idx (ix2 p l) = b.setWidth 32 &&& 127#32 := by
    unfold lows
    rw [shapeCast_comp, shapeCast_id]
    show IntOp.andi (idx (ix2 p l)) _ = _
    rw [hb]; rfl
  have hbn : (b.setWidth 32).toNat = b.toNat := by
    rw [BitVec.toNat_setWidth]; have := b.isLt; omega
  have hmod : (b.setWidth 32 &&& 127#32).toNat = b.toNat % 128 := by
    rw [BitVec.toNat_and, hbn]; exact Nat.and_two_pow_sub_one_eq_mod b.toNat 7
  have hg : ∀ x : IVec S8x128 32, dynamicGather 1 (four x) (lows idx) (ix2 p l)
      = x (ix2 (⟨p.val % 8, by omega⟩ : Fin 8) (⟨b.toNat % 128, by omega⟩ : Fin 128)) := by
    intro x
    rw [← four_apply x p]
    unfold dynamicGather
    congr 1
    funext d
    match d with
    | ⟨0, _⟩ => rfl
    | ⟨1, _⟩ =>
      refine Fin.ext ?_
      show (lows idx (ix2 p l)).toNat % 128 = b.toNat % 128
      rw [hlow, hmod]; omega
  show FloatOps.ofBits .f32 (IntOp.andi (IntOp.shli .vector (Scalar.select (IntOp.cmpi .slt (idx (ix2 p l)) 128#32)
    (dynamicGather 1 (four (half 0 slices_S1x256_o0_0_S1x128 t)) (lows idx) (ix2 p l))
    (dynamicGather 1 (four (half 128 slices_S1x256_o0_128_S1x128 t)) (lows idx) (ix2 p l))) (k0_pay9 (ix2 p l))) 4294901760#32) = _
  rw [hg, hg, half_apply _ _ (by omega), half_apply _ _ (by omega), pay9_apply, hb]
  rw [cmp_code b]
  have hs : Scalar.select (BitVec.ofBool (decide (b.toNat < 128)))
      ((t : IVec S1x1x256 32) (ix3 (0 : Fin 1) (0 : Fin 1) (⟨0 + b.toNat % 128, by omega⟩ : Fin 256)))
      ((t : IVec S1x1x256 32) (ix3 (0 : Fin 1) (0 : Fin 1) (⟨128 + b.toNat % 128, by omega⟩ : Fin 256)))
      = (t : IVec S1x1x256 32) (ix3 (0 : Fin 1) (0 : Fin 1) (⟨b.toNat, b.isLt⟩ : Fin 256)) := by
    have hlt := b.isLt
    by_cases h : b.toNat < 128
    · rw [decide_eq_true h]
      refine congrArg (fun k : Fin 256 => (t : IVec S1x1x256 32) (ix3 (0 : Fin 1) (0 : Fin 1) k)) (Fin.ext ?_)
      show 0 + b.toNat % 128 = b.toNat
      omega
    · rw [decide_eq_false h]
      refine congrArg (fun k : Fin 256 => (t : IVec S1x1x256 32) (ix3 (0 : Fin 1) (0 : Fin 1) k)) (Fin.ext ?_)
      show 128 + b.toNat % 128 = b.toNat
      omega
  refine congrArg (FloatOps.ofBits .f32) ?_
  unfold highHalf
  show IntOp.shli .vector _ _ &&& 4294901760#32 = _
  refine congrArg (· &&& 4294901760#32) ?_
  refine (congrArg (IntOp.shli .vector · _) hs).trans ?_
  by_cases h : l.val % 2 = 0
  · rw [if_pos h, if_pos h]; rfl
  · rw [if_neg h, if_neg h]
    show BitVec.shiftLeft _ 0 = _
    exact BitVec.shiftLeft_zero _

/-- One element of a block of q: the element of the pair its code names. -/
def qelt {F : FTy → Type} [FloatOps F] (codes : IVec S384x128 8) (t0 t1 : Vec F S1x1x256 .i32) (r : Fin 384) (c : Fin 256) : F .f32 :=
  FloatOps.ofBits .f32 (highHalf c.val (((if c.val < 128 then t0 else t1 : Vec F S1x1x256 .i32) : IVec S1x1x256 32)
    (ix3 (0 : Fin 1) (0 : Fin 1) (⟨(codes (ix2 r (⟨c.val / 2, by omega⟩ : Fin 128))).toNat, (codes _).isLt⟩ : Fin 256))))

/-- Two halves side by side, read by halves. -/
theorem pair_apply {α : Type} (x y : S32x128.Idx → α) (g : Fin 256 → α) (p : Fin 32)
    (hx : ∀ l : Fin 128, x (ix2 p l) = g ⟨l.val, by omega⟩) (hy : ∀ l : Fin 128, y (ix2 p l) = g ⟨l.val + 128, by omega⟩) (c : Fin 256) :
    concatenate S32x256 1 [⟨S32x128, x⟩, ⟨S32x128, y⟩] concatenates_S32x128_S32x128_S32x256_d1 (ix2 p c) = g c := by
  pointwise
  split_ifs with h
  · exact hx ⟨c.val, h⟩
  · refine (hy ⟨c.val - 128, by omega⟩).trans (congrArg g (Fin.ext ?_))
    show c.val - 128 + 128 = c.val
    omega
  · exact absurd rfl (by assumption)

set_option maxHeartbeats 4000000 in
/-- Twelve chunks of 32 rows, read by chunks. -/
theorem stack_apply {α : Type} (g : Fin 384 → Fin 256 → α) (x0 x1 x2 x3 x4 x5 x6 x7 x8 x9 x10 x11 : S32x256.Idx → α)
    (h0 : ∀ (p : Fin 32) (c : Fin 256), x0 (ix2 p c) = g (⟨0 + p.val, by omega⟩ : Fin 384) c)
    (h1 : ∀ (p : Fin 32) (c : Fin 256), x1 (ix2 p c) = g (⟨32 + p.val, by omega⟩ : Fin 384) c)
    (h2 : ∀ (p : Fin 32) (c : Fin 256), x2 (ix2 p c) = g (⟨64 + p.val, by omega⟩ : Fin 384) c)
    (h3 : ∀ (p : Fin 32) (c : Fin 256), x3 (ix2 p c) = g (⟨96 + p.val, by omega⟩ : Fin 384) c)
    (h4 : ∀ (p : Fin 32) (c : Fin 256), x4 (ix2 p c) = g (⟨128 + p.val, by omega⟩ : Fin 384) c)
    (h5 : ∀ (p : Fin 32) (c : Fin 256), x5 (ix2 p c) = g (⟨160 + p.val, by omega⟩ : Fin 384) c)
    (h6 : ∀ (p : Fin 32) (c : Fin 256), x6 (ix2 p c) = g (⟨192 + p.val, by omega⟩ : Fin 384) c)
    (h7 : ∀ (p : Fin 32) (c : Fin 256), x7 (ix2 p c) = g (⟨224 + p.val, by omega⟩ : Fin 384) c)
    (h8 : ∀ (p : Fin 32) (c : Fin 256), x8 (ix2 p c) = g (⟨256 + p.val, by omega⟩ : Fin 384) c)
    (h9 : ∀ (p : Fin 32) (c : Fin 256), x9 (ix2 p c) = g (⟨288 + p.val, by omega⟩ : Fin 384) c)
    (h10 : ∀ (p : Fin 32) (c : Fin 256), x10 (ix2 p c) = g (⟨320 + p.val, by omega⟩ : Fin 384) c)
    (h11 : ∀ (p : Fin 32) (c : Fin 256), x11 (ix2 p c) = g (⟨352 + p.val, by omega⟩ : Fin 384) c)
    (r : Fin 384) (c : Fin 256) :
    concatenate S384x256 0 [⟨S32x256, x0⟩, ⟨S32x256, x1⟩, ⟨S32x256, x2⟩, ⟨S32x256, x3⟩, ⟨S32x256, x4⟩, ⟨S32x256, x5⟩, ⟨S32x256, x6⟩, ⟨S32x256, x7⟩, ⟨S32x256, x8⟩, ⟨S32x256, x9⟩, ⟨S32x256, x10⟩, ⟨S32x256, x11⟩]
      concatenates_S32x256_S32x256_S32x256_S32x256_S32x256_S32x256_S32x256_S32x256_S32x256_S32x256_S32x256_S32x256_S384x256_d0 (ix2 r c) = g r c := by
  pointwise
  have := r.isLt
  by_cases h : r.val < 32
  · rw [dif_pos h]; exact (h0 ⟨_, h⟩ c).trans (congrArg (fun k => g k c) (Fin.ext (by show 0 + (r.val) = r.val; omega)))
  rw [dif_neg h]
  by_cases h : r.val - 32 < 32
  · rw [dif_pos h]; exact (h1 ⟨_, h⟩ c).trans (congrArg (fun k => g k c) (Fin.ext (by show 32 + (r.val - 32) = r.val; omega)))
  rw [dif_neg h]
  by_cases h : r.val - 32 - 32 < 32
  · rw [dif_pos h]; exact (h2 ⟨_, h⟩ c).trans (congrArg (fun k => g k c) (Fin.ext (by show 64 + (r.val - 32 - 32) = r.val; omega)))
  rw [dif_neg h]
  by_cases h : r.val - 32 - 32 - 32 < 32
  · rw [dif_pos h]; exact (h3 ⟨_, h⟩ c).trans (congrArg (fun k => g k c) (Fin.ext (by show 96 + (r.val - 32 - 32 - 32) = r.val; omega)))
  rw [dif_neg h]
  by_cases h : r.val - 32 - 32 - 32 - 32 < 32
  · rw [dif_pos h]; exact (h4 ⟨_, h⟩ c).trans (congrArg (fun k => g k c) (Fin.ext (by show 128 + (r.val - 32 - 32 - 32 - 32) = r.val; omega)))
  rw [dif_neg h]
  by_cases h : r.val - 32 - 32 - 32 - 32 - 32 < 32
  · rw [dif_pos h]; exact (h5 ⟨_, h⟩ c).trans (congrArg (fun k => g k c) (Fin.ext (by show 160 + (r.val - 32 - 32 - 32 - 32 - 32) = r.val; omega)))
  rw [dif_neg h]
  by_cases h : r.val - 32 - 32 - 32 - 32 - 32 - 32 < 32
  · rw [dif_pos h]; exact (h6 ⟨_, h⟩ c).trans (congrArg (fun k => g k c) (Fin.ext (by show 192 + (r.val - 32 - 32 - 32 - 32 - 32 - 32) = r.val; omega)))
  rw [dif_neg h]
  by_cases h : r.val - 32 - 32 - 32 - 32 - 32 - 32 - 32 < 32
  · rw [dif_pos h]; exact (h7 ⟨_, h⟩ c).trans (congrArg (fun k => g k c) (Fin.ext (by show 224 + (r.val - 32 - 32 - 32 - 32 - 32 - 32 - 32) = r.val; omega)))
  rw [dif_neg h]
  by_cases h : r.val - 32 - 32 - 32 - 32 - 32 - 32 - 32 - 32 < 32
  · rw [dif_pos h]; exact (h8 ⟨_, h⟩ c).trans (congrArg (fun k => g k c) (Fin.ext (by show 256 + (r.val - 32 - 32 - 32 - 32 - 32 - 32 - 32 - 32) = r.val; omega)))
  rw [dif_neg h]
  by_cases h : r.val - 32 - 32 - 32 - 32 - 32 - 32 - 32 - 32 - 32 < 32
  · rw [dif_pos h]; exact (h9 ⟨_, h⟩ c).trans (congrArg (fun k => g k c) (Fin.ext (by show 288 + (r.val - 32 - 32 - 32 - 32 - 32 - 32 - 32 - 32 - 32) = r.val; omega)))
  rw [dif_neg h]
  by_cases h : r.val - 32 - 32 - 32 - 32 - 32 - 32 - 32 - 32 - 32 - 32 < 32
  · rw [dif_pos h]; exact (h10 ⟨_, h⟩ c).trans (congrArg (fun k => g k c) (Fin.ext (by show 320 + (r.val - 32 - 32 - 32 - 32 - 32 - 32 - 32 - 32 - 32 - 32) = r.val; omega)))
  rw [dif_neg h]
  exact (h11 ⟨r.val - 32 - 32 - 32 - 32 - 32 - 32 - 32 - 32 - 32 - 32 - 32, by omega⟩ c).trans (congrArg (fun k => g k c) (Fin.ext (by show 352 + (r.val - 32 - 32 - 32 - 32 - 32 - 32 - 32 - 32 - 32 - 32 - 32) = r.val; omega)))

theorem chunk_apply {F : FTy → Type} [FloatOps F] (o : ℕ) (h : S384x128.Slices ![o, 0] S32x128) (ho : o + 32 ≤ 384) (codes : IVec S384x128 8)
    (t0 t1 : Vec F S1x1x256 .i32) (p : Fin 32) (c : Fin 256) :
    chunk (F := F) o h codes (half 0 slices_S1x256_o0_0_S1x128 t0) (half 128 slices_S1x256_o0_128_S1x128 t0)
      (half 0 slices_S1x256_o0_0_S1x128 t1) (half 128 slices_S1x256_o0_128_S1x128 t1) (ix2 p c) = qelt codes t0 t1 (⟨o + p.val, by omega⟩ : Fin 384) c := by
  unfold chunk
  refine pair_apply _ _ (fun c => qelt codes t0 t1 (⟨o + p.val, by omega⟩ : Fin 384) c) p ?_ ?_ c
  · intro l
    refine (decoded_apply t0 _ p l _ (idxs_apply o h ho codes 0 (by omega) p l)).trans ?_
    unfold qelt
    rw [if_pos (show (⟨l.val, by omega⟩ : Fin 256).val < 128 from l.isLt)]
    rfl
  · intro l
    refine (decoded_apply t1 _ p l _ (idxs_apply o h ho codes 64 (by omega) p l)).trans ?_
    unfold qelt
    rw [if_neg (show ¬ (⟨l.val + 128, by omega⟩ : Fin 256).val < 128 from Nat.not_lt.2 (Nat.le_add_left _ _))]
    have e1 : l.val / 2 + 64 = (l.val + 128) / 2 := by omega
    have e2 : highHalf l.val = highHalf (l.val + 128) := by
      funext x; unfold highHalf; rw [show (l.val + 128) % 2 = l.val % 2 by omega]
    simp only [e1, e2]

theorem rows_apply {F : FTy → Type} [FloatOps F] (codes : IVec S384x128 8)
    (t0 t1 : Vec F S1x1x256 .i32) (r : Fin 384) (c : Fin 256) :
    rows (F := F) codes (half 0 slices_S1x256_o0_0_S1x128 t0) (half 128 slices_S1x256_o0_128_S1x128 t0)
      (half 0 slices_S1x256_o0_0_S1x128 t1) (half 128 slices_S1x256_o0_128_S1x128 t1) (ix2 r c) = qelt codes t0 t1 r c := by
  unfold rows
  refine stack_apply (fun r c => qelt codes t0 t1 r c) _ _ _ _ _ _ _ _ _ _ _ _ ?_ ?_ ?_ ?_ ?_ ?_ ?_ ?_ ?_ ?_ ?_ ?_ r c <;>
    exact fun p c => chunk_apply _ _ (by omega) codes t0 t1 p c

/-- A block of q at an index. -/
theorem qblk_apply {F : FTy → Type} [FloatOps F] (cs : Vec F S1x384x128 .i8) (t0 t1 : Vec F S1x1x256 .i32) (r : Fin 384) (c : Fin 256) :
    qblk (F := F) cs t0 t1 (ix2 r c) = qelt (shapeCast S384x128 cs shapeCasts_S1x384x128_S384x128 : IVec S384x128 8) t0 t1 r c :=
  rows_apply _ t0 t1 r c

/-- A pattern whose low half is zero denotes in 32 bits what its high half denotes in 16. -/
theorem ieee_high (x : BitVec 16) : Ideal.ieee 8 23 (x ++ (0#16) : BitVec 32) = Ideal.ieee 8 7 x := by
  have h0 : (x ++ (0#16) : BitVec 32).toNat = x.toNat * 65536 := by
    have hx := x.isLt
    rw [BitVec.toNat_append]
    simp only [BitVec.toNat_ofNat, Nat.zero_mod, Nat.or_zero, Nat.shiftLeft_eq]
  have h1 : (x ++ (0#16) : BitVec 32).extractLsb' (8 + 23) 1 = x.extractLsb' (8 + 7) 1 := by
    apply BitVec.eq_of_toNat_eq
    rw [BitVec.extractLsb'_toNat, BitVec.extractLsb'_toNat, h0, Nat.shiftRight_eq_div_pow, Nat.shiftRight_eq_div_pow]
    omega
  have h2 : ((x ++ (0#16) : BitVec 32).extractLsb' 23 8) = (x.extractLsb' 7 8) := by
    apply BitVec.eq_of_toNat_eq
    rw [BitVec.extractLsb'_toNat, BitVec.extractLsb'_toNat, h0, Nat.shiftRight_eq_div_pow, Nat.shiftRight_eq_div_pow]
    omega
  have h3 : ((x ++ (0#16) : BitVec 32).extractLsb' 0 23).toNat = (x.extractLsb' 0 7).toNat * 2 ^ 16 := by
    have hx := x.isLt
    rw [BitVec.extractLsb'_toNat, BitVec.extractLsb'_toNat, h0]
    simp only [Nat.shiftRight_zero]
    omega
  unfold Ideal.ieee
  simp only [h1, h2, h3]
  generalize (x.extractLsb' 7 8).toNat = e
  generalize (x.extractLsb' 0 7).toNat = f
  generalize (if (x.extractLsb' (8 + 7) 1 == 1#1) = true then (-1 : ℝ) else 1) = s
  have hp : ∀ n : ℤ, (2 : ℝ) ^ (n - 7) = 2 ^ 16 * (2 : ℝ) ^ (n - 23) := by
    intro n
    rw [show (n - 7 : ℤ) = 16 + (n - 23) by ring, zpow_add₀ (by norm_num : (2 : ℝ) ≠ 0)]
    norm_cast
  by_cases he : e = 2 ^ 8 - 1
  · rw [if_pos he, if_pos he]
    by_cases hf : f = 0
    · rw [if_pos hf, if_pos (by omega)]
    · rw [if_neg hf, if_neg (by omega)]
  · rw [if_neg he, if_neg he]
    by_cases h : e = 0
    · rw [if_pos h, if_pos h]
      refine congrArg Real.toEReal ?_
      have := hp (1 - (2 ^ (8 - 1) - 1))
      push_cast at this ⊢
      rw [this]; ring
    · rw [if_neg h, if_neg h]
      refine congrArg Real.toEReal ?_
      have := hp ((e : ℤ) - (2 ^ (8 - 1) - 1))
      push_cast at this ⊢
      rw [this]; ring

end Cert.KernelIdeal.Solve
-- ==== Proof.Values.lean ====
/-
  The two results, as functions of the arguments: q reads the codebook, err is the recurrence's solution over the reals.
-/
module

public import proofs.«01_k».proof.Proof.Recurrence
public import Idealize.ShloMosaic.Lib.Pointwise

@[expose] public section

noncomputable section

namespace Cert.Solve

open Idealize.ShloMosaic Cert.Recurrence

/-- The codebook's bits of q at matrix `m`, row `r`, column `c`. -/
def qbits (codes : IVec ⟨3, ![5, 384, 1280]⟩ 8) (cb : IVec ⟨4, ![5, 20, 256, 2]⟩ 16) (m : Fin 5) (r : Fin 384) (c : Fin 2560) : BitVec 16 :=
  cb (ix4 m (⟨c.val / 128, by omega⟩ : Fin 20) (⟨(codes (ix3 m r (⟨c.val / 2, by omega⟩ : Fin 1280))).toNat, (codes _).isLt⟩ : Fin 256) (⟨c.val % 2, by omega⟩ : Fin 2))

/-- q. -/
def qval (codes : IVec ⟨3, ![5, 384, 1280]⟩ 8) (cb : IVec ⟨4, ![5, 20, 256, 2]⟩ 16) (m : Fin 5) (r : Fin 384) (c : Fin 2560) : EReal :=
  Ideal.ieee 8 7 (qbits codes cb m r c)

/-- A row of w − q, as reals. -/
def resid (w : FVec Ideal ⟨3, ![5, 384, 2560]⟩ .bf16) (codes : IVec ⟨3, ![5, 384, 1280]⟩ 8) (cb : IVec ⟨4, ![5, 20, 256, 2]⟩ 16) (m : Fin 5) (r : Fin 384) : ℕ → ℝ :=
  fun l => if h : l < 2560 then EReal.toReal (w (ix3 m r (⟨l, h⟩ : Fin 2560))) - EReal.toReal (qval codes cb m r ⟨l, h⟩) else 0

/-- hinv_u, as reals. -/
def umat (hinv : FVec Ideal ⟨2, ![2560, 2560]⟩ .f32) : ℕ → ℕ → ℝ :=
  fun i l => if h : i < 2560 ∧ l < 2560 then EReal.toReal (hinv (ix2 (⟨i, h.1⟩ : Fin 2560) (⟨l, h.2⟩ : Fin 2560))) else 0

/-- err. -/
def errval (w : FVec Ideal ⟨3, ![5, 384, 2560]⟩ .bf16) (codes : IVec ⟨3, ![5, 384, 1280]⟩ 8) (cb : IVec ⟨4, ![5, 20, 256, 2]⟩ 16)
    (hinv : FVec Ideal ⟨2, ![2560, 2560]⟩ .f32) (m : Fin 5) (r : Fin 384) (c : Fin 2560) : ℝ :=
  sol (resid w codes cb m r) (umat hinv) c.val

/-- q, as an array. -/
def qarr (codes : IVec ⟨3, ![5, 384, 1280]⟩ 8) (cb : IVec ⟨4, ![5, 20, 256, 2]⟩ 16) : FVec Ideal ⟨3, ![5, 384, 2560]⟩ .bf16 :=
  fun i => qval codes cb (i 0) (i 1) (i 2)

/-- err, as an array. -/
def errarr (w : FVec Ideal ⟨3, ![5, 384, 2560]⟩ .bf16) (codes : IVec ⟨3, ![5, 384, 1280]⟩ 8) (cb : IVec ⟨4, ![5, 20, 256, 2]⟩ 16)
    (hinv : FVec Ideal ⟨2, ![2560, 2560]⟩ .f32) : FVec Ideal ⟨3, ![5, 384, 2560]⟩ .f32 :=
  fun i => ((errval w codes cb hinv (i 0) (i 1) (i 2) : ℝ) : EReal)

end Cert.Solve

end
-- ==== Proof.QBlock.lean ====
/-
  A block of q holds the codebook's elements.
-/
module

public import proofs.«01_k».proof.Proof.Decode
public import proofs.«01_k».proof.Proof.Values

@[expose] public section

set_option synthInstance.maxSize 4096
set_option maxRecDepth 100000

noncomputable section

namespace Cert.KernelIdeal.Solve

open Cert.KernelIdeal Cert.KernelIdeal.Gen Idealize.ShloMosaic Idealize.ShloMosaic.TcCoe Idealize.SL.Sem

/-- The wanted element of a pair ends in the high half, over zeros. -/
theorem high_append (h l : BitVec 16) (c : ℕ) : highHalf c (h ++ l : BitVec 32) = (if c % 2 = 0 then l else h) ++ (0#16) := by
  unfold highHalf
  have hm : ∀ i, i < 32 → (4294901760#32).getLsbD i = decide (16 ≤ i) := by decide
  by_cases hc : c % 2 = 0
  · rw [if_pos hc, if_pos hc]
    apply BitVec.eq_of_getLsbD_eq
    intro i hi
    rw [BitVec.getLsbD_and, hm i hi, BitVec.shiftLeft_eq', BitVec.getLsbD_shiftLeft, BitVec.getLsbD_append, BitVec.getLsbD_append]
    by_cases h16 : i < 16
    · simp [h16, show ¬ 16 ≤ i by omega]
    · simp [h16, hi, show 16 ≤ i by omega, show i - 16 < 16 by omega]
  · rw [if_neg hc, if_neg hc]
    apply BitVec.eq_of_getLsbD_eq
    intro i hi
    rw [BitVec.getLsbD_and, hm i hi, BitVec.getLsbD_append, BitVec.getLsbD_append]
    by_cases h16 : i < 16
    · simp [h16, show ¬ 16 ≤ i by omega]
    · simp [h16, show 16 ≤ i by omega]

theorem drop_unit {α : Type} (x : S1x384x128.Idx → α) (r : Fin 384) (k : Fin 128) :
    shapeCast S384x128 x shapeCasts_S1x384x128_S384x128 (ix2 r k) = x (ix3 (0 : Fin 1) r k) := by
  pointwise

variable (codes : IVec ⟨3, ![5, 384, 1280]⟩ 8) (cb : IVec ⟨4, ![5, 20, 256, 2]⟩ 16) (m : Fin 5)

/-- Block `j` of q, at row `r` and column `c`. -/
theorem qblk_val (j : ℕ) (hj : j < 10) (cs : IVec S1x384x128 8) (t0 t1 : IVec S1x1x256 32)
    (hcs : ∀ (r : Fin 384) (k : Fin 128), cs (ix3 (0 : Fin 1) r k) = codes (ix3 m r (⟨128 * j + k.val, by omega⟩ : Fin 1280)))
    (ht0 : ∀ n : Fin 256, t0 (ix3 (0 : Fin 1) (0 : Fin 1) n) = cb (ix4 m (⟨2 * j, by omega⟩ : Fin 20) n (1 : Fin 2)) ++ cb (ix4 m (⟨2 * j, by omega⟩ : Fin 20) n (0 : Fin 2)))
    (ht1 : ∀ n : Fin 256, t1 (ix3 (0 : Fin 1) (0 : Fin 1) n) = cb (ix4 m (⟨2 * j + 1, by omega⟩ : Fin 20) n (1 : Fin 2)) ++ cb (ix4 m (⟨2 * j + 1, by omega⟩ : Fin 20) n (0 : Fin 2)))
    (r : Fin 384) (c : Fin 256) :
    qblk (F := Ideal) cs t0 t1 (ix2 r c) = Cert.Solve.qval codes cb m r (⟨256 * j + c.val, by omega⟩ : Fin 2560) := by
  rw [qblk_apply]
  unfold qelt Cert.Solve.qval Cert.Solve.qbits
  have hg : ∀ n : Fin 256, (if c.val < 128 then t0 else t1) (ix3 (0 : Fin 1) (0 : Fin 1) n)
      = cb (ix4 m (⟨(256 * j + c.val) / 128, by omega⟩ : Fin 20) n (1 : Fin 2)) ++ cb (ix4 m (⟨(256 * j + c.val) / 128, by omega⟩ : Fin 20) n (0 : Fin 2)) := by
    intro n
    by_cases h : c.val < 128
    · have e : (⟨(256 * j + c.val) / 128, by omega⟩ : Fin 20) = ⟨2 * j, by omega⟩ := Fin.ext (by show (256 * j + c.val) / 128 = 2 * j; omega)
      rw [if_pos h, e]; exact ht0 n
    · have e : (⟨(256 * j + c.val) / 128, by omega⟩ : Fin 20) = ⟨2 * j + 1, by omega⟩ := Fin.ext (by show (256 * j + c.val) / 128 = 2 * j + 1; omega)
      rw [if_neg h, e]; exact ht1 n
  have hc : (shapeCast S384x128 cs shapeCasts_S1x384x128_S384x128 : IVec S384x128 8) (ix2 r (⟨c.val / 2, by omega⟩ : Fin 128))
      = codes (ix3 m r (⟨(256 * j + c.val) / 2, by omega⟩ : Fin 1280)) := by
    rw [drop_unit, hcs]
    exact congrArg (fun z => codes (ix3 m r z)) (Fin.ext (by show 128 * j + c.val / 2 = (256 * j + c.val) / 2; omega))
  have hn : (⟨((shapeCast S384x128 cs shapeCasts_S1x384x128_S384x128 : IVec S384x128 8) (ix2 r (⟨c.val / 2, by omega⟩ : Fin 128))).toNat,
      ((shapeCast S384x128 cs shapeCasts_S1x384x128_S384x128 : IVec S384x128 8) _).isLt⟩ : Fin 256)
      = ⟨(codes (ix3 m r (⟨(256 * j + c.val) / 2, by omega⟩ : Fin 1280))).toNat, (codes _).isLt⟩ := Fin.ext (congrArg BitVec.toNat hc)
  show Ideal.ieee 8 23 (highHalf c.val ((if c.val < 128 then t0 else t1) (ix3 (0 : Fin 1) (0 : Fin 1) _))) = _
  rw [hg, high_append, ieee_high, hn]
  congr 1
  by_cases h : c.val % 2 = 0
  · have e : (⟨(256 * j + c.val) % 2, by omega⟩ : Fin 2) = 0 := Fin.ext (by show (256 * j + c.val) % 2 = 0; omega)
    rw [if_pos h, e]
  · have e : (⟨(256 * j + c.val) % 2, by omega⟩ : Fin 2) = 1 := Fin.ext (by show (256 * j + c.val) % 2 = 1; omega)
    rw [if_neg h, e]

end Cert.KernelIdeal.Solve

end
-- ==== Proof.KBlock.lean ====
/-
  What one point of the kernel's grid stores: q and err of its matrix.
-/
module

public import proofs.«01_k».proof.Proof.ErrBlock
public import proofs.«01_k».proof.Proof.QBlock
public import Idealize.ShloMosaic.Lib.Pipeline.ValueKit.Tiles

@[expose] public section

set_option synthInstance.maxSize 4096
set_option maxRecDepth 100000

noncomputable section

namespace Cert.KernelIdeal.Solve

open Cert.KernelIdeal Cert.KernelIdeal.Gen Idealize.ShloMosaic Idealize.ShloMosaic.TcCoe Idealize.SL.Sem
open Cert.Recurrence

/-- A unit-stride read of a whole buffer. -/
theorem rd {s : Shape} {e : EltTy} (arg : Memref sig .tc .vmem s e) (harg : arg.IsWhole) (x : Vec Ideal s e) (off size : Fin s.rank → ℕ)
    (inb : ∀ a, off a + size a ≤ s.size a) (y : (Rect.unit (s := s) off size inb).toLoadRect.shape.Idx) (i : s.Idx) (hi : ∀ a, (i a : ℕ) = off a + (y a : ℕ)) :
    View.readAt (Elt Ideal) arg.view (Rect.unit (s := s) off size inb).toLoadRect (harg.unread x) y = x i := by
  rw [View.readAt_eq_ld, harg.read_unread]
  exact View.ld_unit_apply_of x off size inb y i hi

/-- The arguments as real numbers: the residuals, the upper triangle, and the blocks' inverses. -/
structure Reals (w : FVec Ideal ⟨3, ![5, 384, 2560]⟩ .bf16) (codes : IVec ⟨3, ![5, 384, 1280]⟩ 8) (cb : IVec ⟨4, ![5, 20, 256, 2]⟩ 16)
    (hinv : FVec Ideal ⟨2, ![2560, 2560]⟩ .f32) (v : FVec Ideal ⟨3, ![10, 256, 256]⟩ .f32) (V : ℕ → ℕ → ℕ → ℝ) : Prop where
  hw : ∀ (a : Fin 5) (b : Fin 384) (l : Fin 2560), (w (ix3 a b l) : EReal) - Cert.Solve.qval codes cb a b l = ((Cert.Solve.resid w codes cb a b l.val : ℝ) : EReal)
  hu : ∀ i l : Fin 2560, i ≤ l → (hinv (ix2 i l) : EReal) = ((Cert.Solve.umat hinv i.val l.val : ℝ) : EReal)
  hd : ∀ l, l < 2560 → Cert.Solve.umat hinv l l ≠ 0
  hv : ∀ (j : Fin 10) (c d : Fin 256), (v (ix3 j c d) : EReal) = ((V j.val c.val d.val : ℝ) : EReal)
  hV : ∀ j, j < 10 → ∀ i d, i < 256 → d < 256 → ∑ c ∈ Finset.range 256, (if i ≤ c then Cert.Solve.umat hinv (256 * j + i) (256 * j + c) else 0) * V j c d = if i = d then 1 else 0

/-- The blocks of matrix `m`. -/
structure Blocks (w : FVec Ideal ⟨3, ![5, 384, 2560]⟩ .bf16) (codes : IVec ⟨3, ![5, 384, 1280]⟩ 8) (cb : IVec ⟨4, ![5, 20, 256, 2]⟩ 16)
    (hinv : FVec Ideal ⟨2, ![2560, 2560]⟩ .f32) (v : FVec Ideal ⟨3, ![10, 256, 256]⟩ .f32) (m : Fin 5)
    (x0 : Vec Ideal S1x384x2560 .bf16) (x1 : Vec Ideal S1x384x1280 .i8) (x2 : Vec Ideal S1x20x256 .i32) (x3 : Vec Ideal S2560x2560 .f32) (x4 : Vec Ideal S10x256x256 .f32) : Prop where
  h0 : ∀ (r : Fin 384) (l : Fin 2560), x0 (ix3 (0 : Fin 1) r l) = w (ix3 m r l)
  h1 : ∀ (r : Fin 384) (l : Fin 1280), x1 (ix3 (0 : Fin 1) r l) = codes (ix3 m r l)
  h2 : ∀ (g : Fin 20) (n : Fin 256), x2 (ix3 (0 : Fin 1) g n) = cb (ix4 m g n (1 : Fin 2)) ++ cb (ix4 m g n (0 : Fin 2))
  h3 : ∀ i l : Fin 2560, x3 (ix2 i l) = hinv (ix2 i l)
  h4 : ∀ (j : Fin 10) (c d : Fin 256), x4 (ix3 j c d) = v (ix3 j c d)

variable {w : FVec Ideal ⟨3, ![5, 384, 2560]⟩ .bf16} {codes : IVec ⟨3, ![5, 384, 1280]⟩ 8} {cb : IVec ⟨4, ![5, 20, 256, 2]⟩ 16}
  {hinv : FVec Ideal ⟨2, ![2560, 2560]⟩ .f32} {v : FVec Ideal ⟨3, ![10, 256, 256]⟩ .f32} {V : ℕ → ℕ → ℕ → ℝ} {m : Fin 5}
  {x0 : Vec Ideal S1x384x2560 .bf16} {x1 : Vec Ideal S1x384x1280 .i8} {x2 : Vec Ideal S1x20x256 .i32} {x3 : Vec Ideal S2560x2560 .f32} {x4 : Vec Ideal S10x256x256 .f32}
  (hb : Blocks w codes cb hinv v m x0 x1 x2 x3 x4)
  (arg1 : Memref sig .tc .vmem S1x384x2560 .bf16) (harg1 : arg1.IsWhole) (arg2 : Memref sig .tc .vmem S1x384x1280 .i8) (harg2 : arg2.IsWhole)
  (arg3 : Memref sig .tc .vmem S1x20x256 .i32) (harg3 : arg3.IsWhole) (arg4 : Memref sig .tc .vmem S2560x2560 .f32) (harg4 : arg4.IsWhole)
  (arg5 : Memref sig .tc .vmem S10x256x256 .f32) (harg5 : arg5.IsWhole) (arg6 : Memref sig .tc .vmem S1x384x2560 .bf16) (harg6 : arg6.IsWhole)
  (arg7 : Memref sig .tc .vmem S1x384x2560 .f32) (harg7 : arg7.IsWhole)

include hb

/-- Block `j` of q, from the codes at `K1` and the table rows `g0` and `g1`. -/
theorem q_at (j K1 g0 g1 : ℕ) (hj : j < 10) (hK1 : K1 = 128 * j) (hg0 : g0 = 2 * j) (hg1 : g1 = 2 * j + 1)
    (inb2 : ∀ a, (![0, 0, K1] : Fin 3 → ℕ) a + S1x384x128.size a ≤ S1x384x1280.size a)
    (inb30 : ∀ a, (![0, g0, 0] : Fin 3 → ℕ) a + S1x1x256.size a ≤ S1x20x256.size a)
    (inb31 : ∀ a, (![0, g1, 0] : Fin 3 → ℕ) a + S1x1x256.size a ≤ S1x20x256.size a) (r : Fin 384) (c : Fin 256) :
    qblk (F := Ideal) (View.readAt (Elt Ideal) arg2.view (Rect.unit (s := S1x384x1280) ![0, 0, K1] S1x384x128.size inb2).toLoadRect (harg2.unread x1))
      (View.readAt (Elt Ideal) arg3.view (Rect.unit (s := S1x20x256) ![0, g0, 0] S1x1x256.size inb30).toLoadRect (harg3.unread x2))
      (View.readAt (Elt Ideal) arg3.view (Rect.unit (s := S1x20x256) ![0, g1, 0] S1x1x256.size inb31).toLoadRect (harg3.unread x2)) (ix2 r c)
      = Cert.Solve.qval codes cb m r (⟨256 * j + c.val, by omega⟩ : Fin 2560) := by
  subst hK1; subst hg0; subst hg1
  refine qblk_val codes cb m j hj _ _ _ (fun r k => ?_) (fun n => ?_) (fun n => ?_) r c
  · rw [← hb.h1]
    exact rd arg2 harg2 x1 _ _ _ _ _ (fun a => by
      match a with
      | ⟨0, _⟩ => rfl
      | ⟨1, _⟩ => exact (Nat.zero_add _).symm
      | ⟨2, _⟩ => rfl)
  · rw [← hb.h2]
    exact rd arg3 harg3 x2 _ _ _ _ _ (fun a => by
      match a with
      | ⟨0, _⟩ => rfl
      | ⟨1, _⟩ => rfl
      | ⟨2, _⟩ => exact (Nat.zero_add _).symm)
  · rw [← hb.h2]
    exact rd arg3 harg3 x2 _ _ _ _ _ (fun a => by
      match a with
      | ⟨0, _⟩ => rfl
      | ⟨1, _⟩ => rfl
      | ⟨2, _⟩ => exact (Nat.zero_add _).symm)

omit hb in
/-- q, over one matrix. -/
def goalQ (codes : IVec ⟨3, ![5, 384, 1280]⟩ 8) (cb : IVec ⟨4, ![5, 20, 256, 2]⟩ 16) (m : Fin 5) : S1x384x2560.Idx → Elt Ideal .bf16 :=
  fun y => Cert.Solve.qval codes cb m (y 1) (y 2)

/-- A piece of q. -/
theorem q_piece (j K K1 g0 g1 : ℕ) (hj : j < 10) (hK : K = 256 * j) (hK1 : K1 = 128 * j) (hg0 : g0 = 2 * j) (hg1 : g1 = 2 * j + 1)
    (inb : ∀ a, (![0, 0, K] : Fin 3 → ℕ) a + S1x384x256.size a ≤ S1x384x2560.size a)
    (inb2 : ∀ a, (![0, 0, K1] : Fin 3 → ℕ) a + S1x384x128.size a ≤ S1x384x1280.size a)
    (inb30 : ∀ a, (![0, g0, 0] : Fin 3 → ℕ) a + S1x1x256.size a ≤ S1x20x256.size a)
    (inb31 : ∀ a, (![0, g1, 0] : Fin 3 → ℕ) a + S1x1x256.size a ≤ S1x20x256.size a) (x : S1x384x256.Idx) :
    qst (F := Ideal) (View.readAt (Elt Ideal) arg2.view (Rect.unit (s := S1x384x1280) ![0, 0, K1] S1x384x128.size inb2).toLoadRect (harg2.unread x1))
      (View.readAt (Elt Ideal) arg3.view (Rect.unit (s := S1x20x256) ![0, g0, 0] S1x1x256.size inb30).toLoadRect (harg3.unread x2))
      (View.readAt (Elt Ideal) arg3.view (Rect.unit (s := S1x20x256) ![0, g1, 0] S1x1x256.size inb31).toLoadRect (harg3.unread x2)) x
      = goalQ codes cb m ((Rect.unit (s := S1x384x2560) ![0, 0, K] S1x384x256.size inb).emb x) := by
  obtain ⟨a, r, d, rfl⟩ : ∃ (a : Fin 1) (r : Fin 384) (d : Fin 256), x = ix3 a r d := ⟨x 0, x 1, x 2, eq_ix3 x⟩
  obtain rfl : a = 0 := Subsingleton.elim _ _
  unfold qst
  rw [add_unit]
  refine (q_at hb arg2 harg2 arg3 harg3 j K1 g0 g1 hj hK1 hg0 hg1 inb2 inb30 inb31 r d).trans ?_
  subst hK
  unfold goalQ
  have e1 : (Rect.unit (s := S1x384x2560) ![0, 0, 256 * j] S1x384x256.size inb).emb (ix3 (0 : Fin 1) r d) 1 = r := Fin.ext (by
    show 0 + 1 * r.val = r.val; omega)
  have e2 : (Rect.unit (s := S1x384x2560) ![0, 0, 256 * j] S1x384x256.size inb).emb (ix3 (0 : Fin 1) r d) 2 = (⟨256 * j + d.val, by omega⟩ : Fin 2560) := Fin.ext (by
    show 256 * j + 1 * d.val = 256 * j + d.val; omega)
  rw [e1, e2]

variable (hr : Reals w codes cb hinv v V)
include hr

/-- The residual block at `K`. -/
theorem w_at (j K K1 g0 g1 : ℕ) (hj : j < 10) (hK : K = 256 * j) (hK1 : K1 = 128 * j) (hg0 : g0 = 2 * j) (hg1 : g1 = 2 * j + 1)
    (inb : ∀ a, (![0, 0, K] : Fin 3 → ℕ) a + S1x384x256.size a ≤ S1x384x2560.size a)
    (inb2 : ∀ a, (![0, 0, K1] : Fin 3 → ℕ) a + S1x384x128.size a ≤ S1x384x1280.size a)
    (inb30 : ∀ a, (![0, g0, 0] : Fin 3 → ℕ) a + S1x1x256.size a ≤ S1x20x256.size a)
    (inb31 : ∀ a, (![0, g1, 0] : Fin 3 → ℕ) a + S1x1x256.size a ≤ S1x20x256.size a) (r : Fin 384) (c : Fin 256) :
    (View.readAt (Elt Ideal) arg1.view (Rect.unit (s := S1x384x2560) ![0, 0, K] S1x384x256.size inb).toLoadRect (harg1.unread x0) (ix3 (0 : Fin 1) r c) : EReal)
      - qblk (F := Ideal) (View.readAt (Elt Ideal) arg2.view (Rect.unit (s := S1x384x1280) ![0, 0, K1] S1x384x128.size inb2).toLoadRect (harg2.unread x1))
      (View.readAt (Elt Ideal) arg3.view (Rect.unit (s := S1x20x256) ![0, g0, 0] S1x1x256.size inb30).toLoadRect (harg3.unread x2))
      (View.readAt (Elt Ideal) arg3.view (Rect.unit (s := S1x20x256) ![0, g1, 0] S1x1x256.size inb31).toLoadRect (harg3.unread x2)) (ix2 r c)
      = ((Cert.Solve.resid w codes cb m r (K + c.val) : ℝ) : EReal) := by
  rw [q_at hb arg2 harg2 arg3 harg3 j K1 g0 g1 hj hK1 hg0 hg1 inb2 inb30 inb31 r c]
  subst hK
  refine Eq.trans ?_ (hr.hw m r (⟨256 * j + c.val, by omega⟩ : Fin 2560))
  rw [← hb.h0]
  refine congrArg (fun z : EReal => z - _) ?_
  exact rd arg1 harg1 x0 _ _ _ _ _ (fun a => by
      match a with
      | ⟨0, _⟩ => rfl
      | ⟨1, _⟩ => exact (Nat.zero_add _).symm
      | ⟨2, _⟩ => rfl)

/-- Block `j` of the inverses. -/
theorem v_at (j : ℕ) (hj : j < 10) (inb5 : ∀ a, (![j, 0, 0] : Fin 3 → ℕ) a + S1x256x256.size a ≤ S10x256x256.size a) (c d : Fin 256) :
    (View.readAt (Elt Ideal) arg5.view (Rect.unit (s := S10x256x256) ![j, 0, 0] S1x256x256.size inb5).toLoadRect (harg5.unread x4) (ix3 (0 : Fin 1) c d) : EReal)
      = ((V j c.val d.val : ℝ) : EReal) := by
  refine Eq.trans ?_ (hr.hv ⟨j, hj⟩ c d)
  rw [← hb.h4]
  exact rd arg5 harg5 x4 _ _ _ _ _ (fun a => by
      match a with
      | ⟨0, _⟩ => rfl
      | ⟨1, _⟩ => exact (Nat.zero_add _).symm
      | ⟨2, _⟩ => exact (Nat.zero_add _).symm)

/-- One step over the blocks of err. -/
theorem step (j K K1 g0 g1 : ℕ) (hj : j < 10) (hK : K = 256 * j) (hK1 : K1 = 128 * j) (hg0 : g0 = 2 * j) (hg1 : g1 = 2 * j + 1)
    (L : List (View.Piece (Elt Ideal) S1x384x2560 .f32)) (hL : Good (Cert.Solve.resid w codes cb m) (Cert.Solve.umat hinv) L K)
    (h : (⟨3, ![1, 384, K]⟩ : Shape).ShapeCasts ⟨2, ![384, K]⟩)
    (inb inb1 : ∀ a, (![0, 0, K] : Fin 3 → ℕ) a + S1x384x256.size a ≤ S1x384x2560.size a)
    (inb2 : ∀ a, (![0, 0, K1] : Fin 3 → ℕ) a + S1x384x128.size a ≤ S1x384x1280.size a)
    (inb30 : ∀ a, (![0, g0, 0] : Fin 3 → ℕ) a + S1x1x256.size a ≤ S1x20x256.size a)
    (inb31 : ∀ a, (![0, g1, 0] : Fin 3 → ℕ) a + S1x1x256.size a ≤ S1x20x256.size a)
    (inb7 : ∀ a, (![0, 0, 0] : Fin 3 → ℕ) a + (⟨3, ![1, 384, K]⟩ : Shape).size a ≤ S1x384x2560.size a)
    (inb4 : ∀ a, (![0, K] : Fin 2 → ℕ) a + (⟨2, ![K, 256]⟩ : Shape).size a ≤ S2560x2560.size a)
    (inb5 : ∀ a, (![j, 0, 0] : Fin 3 → ℕ) a + S1x256x256.size a ≤ S10x256x256.size a) :
    Good (Cert.Solve.resid w codes cb m) (Cert.Solve.umat hinv) (⟨Rect.unit (s := S1x384x2560) ![0, 0, K] S1x384x256.size inb,
      errNext K h (View.readAt (Elt Ideal) arg1.view (Rect.unit (s := S1x384x2560) ![0, 0, K] S1x384x256.size inb1).toLoadRect (harg1.unread x0))
      (qblk (View.readAt (Elt Ideal) arg2.view (Rect.unit (s := S1x384x1280) ![0, 0, K1] S1x384x128.size inb2).toLoadRect (harg2.unread x1))
      (View.readAt (Elt Ideal) arg3.view (Rect.unit (s := S1x20x256) ![0, g0, 0] S1x1x256.size inb30).toLoadRect (harg3.unread x2))
      (View.readAt (Elt Ideal) arg3.view (Rect.unit (s := S1x20x256) ![0, g1, 0] S1x1x256.size inb31).toLoadRect (harg3.unread x2)))
      (arg7.view.readCov L (Rect.unit (s := S1x384x2560) ![0, 0, 0] (⟨3, ![1, 384, K]⟩ : Shape).size inb7).toLoadRect)
      (View.readAt (Elt Ideal) arg4.view (Rect.unit (s := S2560x2560) ![0, K] (⟨2, ![K, 256]⟩ : Shape).size inb4).toLoadRect (harg4.unread x3))
      (View.readAt (Elt Ideal) arg5.view (Rect.unit (s := S10x256x256) ![j, 0, 0] S1x256x256.size inb5).toLoadRect (harg5.unread x4))⟩ :: L) (K + 256) := by
  refine err_next _ _ K (by omega) (V j) L hL arg7 h _ _ _ _ inb7
    (w_at hb arg1 harg1 arg2 harg2 arg3 harg3 hr j K K1 g0 g1 hj hK hK1 hg0 hg1 inb1 inb2 inb30 inb31)
    (fun i c => ?_) (v_at hb arg5 harg5 hr j hj inb5) hr.hd (by rw [hK]; exact hr.hV j hj) inb
  have hi : i.val < 2560 := by omega
  have hl : K + c.val < 2560 := by omega
  refine Eq.trans ?_ (hr.hu ⟨i.val, hi⟩ ⟨K + c.val, hl⟩ (by show i.val ≤ K + c.val; omega))
  rw [← hb.h3]
  exact rd arg4 harg4 x3 _ _ _ _ _ (fun a => by
      match a with
      | ⟨0, _⟩ => exact (Nat.zero_add _).symm
      | ⟨1, _⟩ => rfl)

variable (d : Dev nD) (i : grid0.Coords)

omit hr in
/-- q over the matrix. -/
theorem out_q : out0_A_5 d i arg1 harg1 arg2 harg2 arg3 harg3 arg4 harg4 arg5 harg5 arg6 harg6 arg7 harg7 x0 x1 x2 x3 x4 = goalQ codes cb m := by
  funext y
  unfold out0_A_5
  rw [View.read_writes_junk_eq_canon]
  refine View.canon_apply_of_pieces _ _ ?_ y (cover0_A_5 d i arg1 harg1 arg2 harg2 arg3 harg3 arg4 harg4 arg5 harg5 arg6 harg6 arg7 harg7 x0 x1 x2 x3 x4 y)
  rw [pieces5]
  intro p hp
  simp only [List.mem_cons, List.not_mem_nil, or_false] at hp
  rcases hp with rfl | rfl | rfl | rfl | rfl | rfl | rfl | rfl | rfl | rfl
  · exact fun x => q_piece hb arg2 harg2 arg3 harg3 9 2304 1152 18 19 (by decide) rfl rfl rfl rfl inb_S1x384x2560_S1x384x256_0_0_2304 _ _ _ x
  · exact fun x => q_piece hb arg2 harg2 arg3 harg3 8 2048 1024 16 17 (by decide) rfl rfl rfl rfl inb_S1x384x2560_S1x384x256_0_0_2048 _ _ _ x
  · exact fun x => q_piece hb arg2 harg2 arg3 harg3 7 1792 896 14 15 (by decide) rfl rfl rfl rfl inb_S1x384x2560_S1x384x256_0_0_1792 _ _ _ x
  · exact fun x => q_piece hb arg2 harg2 arg3 harg3 6 1536 768 12 13 (by decide) rfl rfl rfl rfl inb_S1x384x2560_S1x384x256_0_0_1536 _ _ _ x
  · exact fun x => q_piece hb arg2 harg2 arg3 harg3 5 1280 640 10 11 (by decide) rfl rfl rfl rfl inb_S1x384x2560_S1x384x256_0_0_1280 _ _ _ x
  · exact fun x => q_piece hb arg2 harg2 arg3 harg3 4 1024 512 8 9 (by decide) rfl rfl rfl rfl inb_S1x384x2560_S1x384x256_0_0_1024 _ _ _ x
  · exact fun x => q_piece hb arg2 harg2 arg3 harg3 3 768 384 6 7 (by decide) rfl rfl rfl rfl inb_S1x384x2560_S1x384x256_0_0_768 _ _ _ x
  · exact fun x => q_piece hb arg2 harg2 arg3 harg3 2 512 256 4 5 (by decide) rfl rfl rfl rfl inb_S1x384x2560_S1x384x256_0_0_512 _ _ _ x
  · exact fun x => q_piece hb arg2 harg2 arg3 harg3 1 256 128 2 3 (by decide) rfl rfl rfl rfl inb_S1x384x2560_S1x384x256_0_0_256 _ _ _ x
  · exact fun x => q_piece hb arg2 harg2 arg3 harg3 0 0 0 0 1 (by decide) rfl rfl rfl rfl inb_S1x384x2560_S1x384x256_0_0_0 _ _ _ x

/-- err's first block. -/
theorem good_1 : Good (Cert.Solve.resid w codes cb m) (Cert.Solve.umat hinv) (kernelRun0_A.sl.H6_1 d arg1 harg1 arg2 harg2 arg3 harg3 arg5 harg5 x0 x1 x2 x4) 256 := by
  rw [pieces6_0]
  exact err_first _ _ (V 0) _ _ _ (w_at hb arg1 harg1 arg2 harg2 arg3 harg3 hr 0 0 0 0 1 (by decide) rfl rfl rfl rfl _ _ _ _)
    (v_at hb arg5 harg5 hr 0 (by decide) _) hr.hd (hr.hV 0 (by decide)) _

/-- err up to block 1. -/
theorem good_2 : Good (Cert.Solve.resid w codes cb m) (Cert.Solve.umat hinv) (kernelRun0_A.sl.H6_2 d arg1 harg1 arg2 harg2 arg3 harg3 arg4 harg4 arg5 harg5 arg7 x0 x1 x2 x3 x4) 512 := by
  rw [pieces6_1]
  exact step hb arg1 harg1 arg2 harg2 arg3 harg3 arg4 harg4 arg5 harg5 arg7 hr 1 256 128 2 3 (by decide) rfl rfl rfl rfl _
    (good_1 hb arg1 harg1 arg2 harg2 arg3 harg3 arg5 harg5 hr d) _ _ _ _ _ _ _ _ _

/-- err up to block 2. -/
theorem good_3 : Good (Cert.Solve.resid w codes cb m) (Cert.Solve.umat hinv) (kernelRun0_A.sl.H6_3 d arg1 harg1 arg2 harg2 arg3 harg3 arg4 harg4 arg5 harg5 arg7 x0 x1 x2 x3 x4) 768 := by
  rw [pieces6_2]
  exact step hb arg1 harg1 arg2 harg2 arg3 harg3 arg4 harg4 arg5 harg5 arg7 hr 2 512 256 4 5 (by decide) rfl rfl rfl rfl _
    (good_2 hb arg1 harg1 arg2 harg2 arg3 harg3 arg4 harg4 arg5 harg5 arg7 hr d) _ _ _ _ _ _ _ _ _

/-- err up to block 3. -/
theorem good_4 : Good (Cert.Solve.resid w codes cb m) (Cert.Solve.umat hinv) (kernelRun0_A.sl.H6_4 d arg1 harg1 arg2 harg2 arg3 harg3 arg4 harg4 arg5 harg5 arg7 x0 x1 x2 x3 x4) 1024 := by
  rw [pieces6_3]
  exact step hb arg1 harg1 arg2 harg2 arg3 harg3 arg4 harg4 arg5 harg5 arg7 hr 3 768 384 6 7 (by decide) rfl rfl rfl rfl _
    (good_3 hb arg1 harg1 arg2 harg2 arg3 harg3 arg4 harg4 arg5 harg5 arg7 hr d) _ _ _ _ _ _ _ _ _

/-- err up to block 4. -/
theorem good_5 : Good (Cert.Solve.resid w codes cb m) (Cert.Solve.umat hinv) (kernelRun0_A.sl.H6_5 d arg1 harg1 arg2 harg2 arg3 harg3 arg4 harg4 arg5 harg5 arg7 x0 x1 x2 x3 x4) 1280 := by
  rw [pieces6_4]
  exact step hb arg1 harg1 arg2 harg2 arg3 harg3 arg4 harg4 arg5 harg5 arg7 hr 4 1024 512 8 9 (by decide) rfl rfl rfl rfl _
    (good_4 hb arg1 harg1 arg2 harg2 arg3 harg3 arg4 harg4 arg5 harg5 arg7 hr d) _ _ _ _ _ _ _ _ _

/-- err up to block 5. -/
theorem good_6 : Good (Cert.Solve.resid w codes cb m) (Cert.Solve.umat hinv) (kernelRun0_A.sl.H6_6 d arg1 harg1 arg2 harg2 arg3 harg3 arg4 harg4 arg5 harg5 arg7 x0 x1 x2 x3 x4) 1536 := by
  rw [pieces6_5]
  exact step hb arg1 harg1 arg2 harg2 arg3 harg3 arg4 harg4 arg5 harg5 arg7 hr 5 1280 640 10 11 (by decide) rfl rfl rfl rfl _
    (good_5 hb arg1 harg1 arg2 harg2 arg3 harg3 arg4 harg4 arg5 harg5 arg7 hr d) _ _ _ _ _ _ _ _ _

/-- err up to block 6. -/
theorem good_7 : Good (Cert.Solve.resid w codes cb m) (Cert.Solve.umat hinv) (kernelRun0_A.sl.H6_7 d arg1 harg1 arg2 harg2 arg3 harg3 arg4 harg4 arg5 harg5 arg7 x0 x1 x2 x3 x4) 1792 := by
  rw [pieces6_6]
  exact step hb arg1 harg1 arg2 harg2 arg3 harg3 arg4 harg4 arg5 harg5 arg7 hr 6 1536 768 12 13 (by decide) rfl rfl rfl rfl _
    (good_6 hb arg1 harg1 arg2 harg2 arg3 harg3 arg4 harg4 arg5 harg5 arg7 hr d) _ _ _ _ _ _ _ _ _

/-- err up to block 7. -/
theorem good_8 : Good (Cert.Solve.resid w codes cb m) (Cert.Solve.umat hinv) (kernelRun0_A.sl.H6_8 d arg1 harg1 arg2 harg2 arg3 harg3 arg4 harg4 arg5 harg5 arg7 x0 x1 x2 x3 x4) 2048 := by
  rw [pieces6_7]
  exact step hb arg1 harg1 arg2 harg2 arg3 harg3 arg4 harg4 arg5 harg5 arg7 hr 7 1792 896 14 15 (by decide) rfl rfl rfl rfl _
    (good_7 hb arg1 harg1 arg2 harg2 arg3 harg3 arg4 harg4 arg5 harg5 arg7 hr d) _ _ _ _ _ _ _ _ _

/-- err up to block 8. -/
theorem good_9 : Good (Cert.Solve.resid w codes cb m) (Cert.Solve.umat hinv) (kernelRun0_A.sl.H6_9 d arg1 harg1 arg2 harg2 arg3 harg3 arg4 harg4 arg5 harg5 arg7 x0 x1 x2 x3 x4) 2304 := by
  rw [pieces6_8]
  exact step hb arg1 harg1 arg2 harg2 arg3 harg3 arg4 harg4 arg5 harg5 arg7 hr 8 2048 1024 16 17 (by decide) rfl rfl rfl rfl _
    (good_8 hb arg1 harg1 arg2 harg2 arg3 harg3 arg4 harg4 arg5 harg5 arg7 hr d) _ _ _ _ _ _ _ _ _

/-- err up to block 9. -/
theorem good_10 : Good (Cert.Solve.resid w codes cb m) (Cert.Solve.umat hinv) (kernelRun0_A d i arg1 harg1 arg2 harg2 arg3 harg3 arg4 harg4 arg5 harg5 arg6 harg6 arg7 harg7 x0 x1 x2 x3 x4).2.1 2560 := by
  rw [pieces6_9]
  exact step hb arg1 harg1 arg2 harg2 arg3 harg3 arg4 harg4 arg5 harg5 arg7 hr 9 2304 1152 18 19 (by decide) rfl rfl rfl rfl _
    (good_9 hb arg1 harg1 arg2 harg2 arg3 harg3 arg4 harg4 arg5 harg5 arg7 hr d) _ _ _ _ _ _ _ _ _

/-- err over the matrix. -/
theorem out_err : out0_A_6 d i arg1 harg1 arg2 harg2 arg3 harg3 arg4 harg4 arg5 harg5 arg6 harg6 arg7 harg7 x0 x1 x2 x3 x4
    = goal (Cert.Solve.resid w codes cb m) (Cert.Solve.umat hinv) := by
  funext y
  unfold out0_A_6
  rw [View.read_writes_junk_eq_canon]
  exact View.canon_apply_of_pieces _ _ (good_10 hb arg1 harg1 arg2 harg2 arg3 harg3 arg4 harg4 arg5 harg5 arg6 harg6 arg7 harg7 hr d i).1 y
    (cover0_A_6 d i arg1 harg1 arg2 harg2 arg3 harg3 arg4 harg4 arg5 harg5 arg6 harg6 arg7 harg7 x0 x1 x2 x3 x4 y)

end Cert.KernelIdeal.Solve

end
-- ==== Proof.KernelBlocks.lean ====
/-
  The blocks a point of the kernel's grid reads, off the arguments.
-/
module

public import proofs.«01_k».proof.Proof.KBlock
public import Idealize.ShloMosaic.Lib.BitcastConvert
public import Idealize.ShloMosaic.Lib.Pipeline.ValueKit
public import Idealize.ShloMosaic.Lib.StableHlo.RunRead

@[expose] public section

set_option synthInstance.maxSize 4096
set_option maxRecDepth 100000

noncomputable section

namespace Cert.KernelIdeal.Solve

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The table's words: two codebook entries side by side. -/
theorem words (x : IVec S5x20x256x2 16) (a : Fin 5) (g : Fin 20) (n : Fin 256) :
    Host.bitcastConvertWiden S5x20x256 32 x splits_S5x20x256_w32_S5x20x256x2_w16 (ix3 a g n) = x (ix4 a g n (1 : Fin 2)) ++ x (ix4 a g n (0 : Fin 2)) := by
  rw [Host.bitcastConvertWiden_apply_16_32]
  refine congrArg₂ (fun u v : BitVec 16 => u ++ v) (congrArg x ?_) (congrArg x ?_)
  · funext k
    match k with
    | ⟨0, _⟩ => rfl
    | ⟨1, _⟩ => rfl
    | ⟨2, _⟩ => rfl
    | ⟨3, _⟩ => rfl
  · funext k
    match k with
    | ⟨0, _⟩ => rfl
    | ⟨1, _⟩ => rfl
    | ⟨2, _⟩ => rfl
    | ⟨3, _⟩ => rfl

theorem V_main_v0 : V m c main_v0 = Host.bitcastConvertWiden S5x20x256 32 (m ((c.tc : Thread nD τ).loc main_arg2) : IVec S5x20x256x2 16) splits_S5x20x256_w32_S5x20x256x2_w16 := by
  show StableHlo.after hostOps0 (fun b => m (c, b)) (Proc.devRef .tc main_v0) = _
  after_reads_simp

theorem e0 : ∀ t : Fin cfg0.N, win0_0.index t = ![t.val, 0, 0] := (by decide +kernel : ∀ t : Fin grid0.N, win0_0.index t = ![t.val, 0, 0])
theorem e1 : ∀ t : Fin cfg0.N, win0_1.index t = ![t.val, 0, 0] := (by decide +kernel : ∀ t : Fin grid0.N, win0_1.index t = ![t.val, 0, 0])
theorem e2 : ∀ t : Fin cfg0.N, win0_2.index t = ![t.val, 0, 0] := (by decide +kernel : ∀ t : Fin grid0.N, win0_2.index t = ![t.val, 0, 0])
theorem e3 : ∀ t : Fin cfg0.N, win0_3.index t = ![0, 0] := (by decide +kernel : ∀ t : Fin grid0.N, win0_3.index t = ![0, 0])
theorem e4 : ∀ t : Fin cfg0.N, win0_4.index t = ![0, 0, 0] := (by decide +kernel : ∀ t : Fin grid0.N, win0_4.index t = ![0, 0, 0])
theorem e5 : ∀ t : Fin cfg0.N, win0_5.index t = ![t.val, 0, 0] := (by decide +kernel : ∀ t : Fin grid0.N, win0_5.index t = ![t.val, 0, 0])
theorem e6 : ∀ t : Fin cfg0.N, win0_6.index t = ![t.val, 0, 0] := (by decide +kernel : ∀ t : Fin grid0.N, win0_6.index t = ![t.val, 0, 0])

theorem lt5 : ∀ t : Fin cfg0.N, t.val < 5 := (by decide +kernel : ∀ t : Fin grid0.N, t.val < 5)

/-- A point's blocks are its matrix's. -/
theorem blocks (t : Fin cfg0.N) : Blocks (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) ⟨t.val, lt5 t⟩ (iblk m c 0 t) (iblk m c 1 t) (iblk m c 2 t) (iblk m c 3 t) (iblk m c 4 t) where
  h0 r l := by
    refine Eq.trans ?_ (congrFun (V_main_arg0 m c) _)
    blk_simp [iblk]
    refine congrArg (V m c main_arg0) ?_
    blk_ext [e0]
  h1 r l := by
    refine Eq.trans ?_ (congrFun (V_main_arg1 m c) _)
    blk_simp [iblk]
    refine congrArg (V m c main_arg1) ?_
    blk_ext [e1]
  h2 g n := by
    refine Eq.trans ?_ ((congrFun (V_main_v0 m c) _).trans (words _ _ g n))
    blk_simp [iblk]
    refine congrArg (V m c main_v0) ?_
    blk_ext [e2]
  h3 i l := by
    refine Eq.trans ?_ (congrFun (V_main_arg3 m c) _)
    blk_simp [iblk]
    refine congrArg (V m c main_arg3) ?_
    blk_ext [e3]
  h4 j a d := by
    refine Eq.trans ?_ (congrFun (V_main_arg4 m c) _)
    blk_simp [iblk]
    refine congrArg (V m c main_arg4) ?_
    blk_ext [e4]

end Cert.KernelIdeal.Solve

end
-- ==== Proof.KernelValue.lean ====
/-
  The kernel's run: its two results are q and err.
-/
module

public import proofs.«01_k».proof.Proof.KernelBlocks
public import Idealize.ShloMosaic.Lib.BitcastConvert
public import Idealize.ShloMosaic.Lib.Pipeline.ValueKit
public import Idealize.ShloMosaic.Lib.StableHlo.RunRead

@[expose] public section

set_option synthInstance.maxSize 4096
set_option maxRecDepth 100000

noncomputable section

namespace Cert.KernelIdeal.Solve

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (c : Dev nD)

theorem covers5 : (cfg0.win 5).Covers := by decide +kernel
theorem covers6 : (cfg0.win 6).Covers := by decide +kernel

/-- What the run at a point leaves of q. -/
theorem run_q (t : Fin cfg0.N) (x0 : Vec Ideal S1x384x2560 .bf16) (x1 : Vec Ideal S1x384x1280 .i8) (x2 : Vec Ideal S1x20x256 .i32) (x3 : Vec Ideal S2560x2560 .f32) (x4 : Vec Ideal S10x256x256 .f32)
    (w : FVec Ideal ⟨3, ![5, 384, 2560]⟩ .bf16) (codes : IVec ⟨3, ![5, 384, 1280]⟩ 8) (cb : IVec ⟨4, ![5, 20, 256, 2]⟩ 16)
    (hinv : FVec Ideal ⟨2, ![2560, 2560]⟩ .f32) (v : FVec Ideal ⟨3, ![10, 256, 256]⟩ .f32) (a : Fin 5) (hb : Blocks w codes cb hinv v a x0 x1 x2 x3 x4) :
    out0_A_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) x0 x1 x2 x3 x4 = goalQ codes cb a :=
  out_q hb _ _ _ _ _ _ _ _ _ _ _ _ _ _ _ _

/-- What the run at a point leaves of err. -/
theorem run_err (t : Fin cfg0.N) (x0 : Vec Ideal S1x384x2560 .bf16) (x1 : Vec Ideal S1x384x1280 .i8) (x2 : Vec Ideal S1x20x256 .i32) (x3 : Vec Ideal S2560x2560 .f32) (x4 : Vec Ideal S10x256x256 .f32)
    (w : FVec Ideal ⟨3, ![5, 384, 2560]⟩ .bf16) (codes : IVec ⟨3, ![5, 384, 1280]⟩ 8) (cb : IVec ⟨4, ![5, 20, 256, 2]⟩ 16)
    (hinv : FVec Ideal ⟨2, ![2560, 2560]⟩ .f32) (v : FVec Ideal ⟨3, ![10, 256, 256]⟩ .f32) (a : Fin 5) (hb : Blocks w codes cb hinv v a x0 x1 x2 x3 x4)
    (V' : ℕ → ℕ → ℕ → ℝ) (hr : Reals w codes cb hinv v V') :
    out0_A_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) x0 x1 x2 x3 x4 = goal (Cert.Solve.resid w codes cb a) (Cert.Solve.umat hinv) :=
  out_err hb _ _ _ _ _ _ _ _ _ _ _ _ _ _ hr _ _

theorem outs_5 (t : Fin cfg0.N) : (outsAt0 m c t).1 = out0_A_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t) (iblk m c 3 t) (iblk m c 4 t) := by
  simp only [outsAt0]

theorem outs_6 (t : Fin cfg0.N) : (outsAt0 m c t).2 = out0_A_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t) (iblk m c 3 t) (iblk m c 4 t) := by
  simp only [outsAt0]

/-- What a point leaves of q. -/
theorem outs_q (t : Fin cfg0.N) : (outsAt0 m c t).1 = goalQ (m ((c.tc : Thread nD τ).loc main_arg1)) (m ((c.tc : Thread nD τ).loc main_arg2)) ⟨t.val, lt5 t⟩ := by
  rw [outs_5]
  exact run_q c t _ _ _ _ _ _ _ _ _ _ _ (blocks m c t)

/-- What a point leaves of err. -/
theorem outs_err (V' : ℕ → ℕ → ℕ → ℝ) (hr : Reals (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) V') (t : Fin cfg0.N) :
    (outsAt0 m c t).2 = goal (Cert.Solve.resid (m ((c.tc : Thread nD τ).loc main_arg0)) (m ((c.tc : Thread nD τ).loc main_arg1)) (m ((c.tc : Thread nD τ).loc main_arg2)) ⟨t.val, lt5 t⟩) (Cert.Solve.umat (m ((c.tc : Thread nD τ).loc main_arg3))) := by
  rw [outs_6]
  exact run_err c t _ _ _ _ _ _ _ _ _ _ _ (blocks m c t) V' hr

theorem emb5 (t : Fin cfg0.N) (a : Fin 1) (r : Fin 384) (d : Fin 2560) : (win0_5.blk t).view.emb (ix3 a r d) = ix3 (⟨t.val, lt5 t⟩ : Fin 5) r d := by
  blk_ext [e5]
theorem emb6 (t : Fin cfg0.N) (a : Fin 1) (r : Fin 384) (d : Fin 2560) : (win0_6.blk t).view.emb (ix3 a r d) = ix3 (⟨t.val, lt5 t⟩ : Fin 5) r d := by
  blk_ext [e6]

theorem goalQ_emb (codes : IVec ⟨3, ![5, 384, 1280]⟩ 8) (cb : IVec ⟨4, ![5, 20, 256, 2]⟩ 16) (t : Fin cfg0.N) (y : S1x384x2560.Idx) :
    goalQ codes cb ⟨t.val, lt5 t⟩ y = Cert.Solve.qarr codes cb ((win0_5.blk t).view.emb y) := by
  obtain ⟨a, r, d, rfl⟩ : ∃ (a : Fin 1) (r : Fin 384) (d : Fin 2560), y = ix3 a r d := ⟨y 0, y 1, y 2, eq_ix3 y⟩
  rw [emb5]
  rfl

theorem goal_emb (w : FVec Ideal ⟨3, ![5, 384, 2560]⟩ .bf16) (codes : IVec ⟨3, ![5, 384, 1280]⟩ 8) (cb : IVec ⟨4, ![5, 20, 256, 2]⟩ 16)
    (hinv : FVec Ideal ⟨2, ![2560, 2560]⟩ .f32) (t : Fin cfg0.N) (y : S1x384x2560.Idx) :
    goal (Cert.Solve.resid w codes cb ⟨t.val, lt5 t⟩) (Cert.Solve.umat hinv) y = Cert.Solve.errarr w codes cb hinv ((win0_6.blk t).view.emb y) := by
  obtain ⟨a, r, d, rfl⟩ : ∃ (a : Fin 1) (r : Fin 384) (d : Fin 2560), y = ix3 a r d := ⟨y 0, y 1, y 2, eq_ix3 y⟩
  rw [emb6]
  rfl

/-- q, as the kernel's run leaves it. -/
theorem arr_q : (dats m 0 c).arrAt 5 cfg0.N = Cert.Solve.qarr (m ((c.tc : Thread nD τ).loc main_arg1)) (m ((c.tc : Thread nD τ).loc main_arg2)) := by
  refine (dats m 0 c).arrAt_eq_of_covers 5 _ covers5 fun t hf y => ?_
  rw [after0_5, outs_q]
  exact goalQ_emb _ _ t y

/-- err, as the kernel's run leaves it. -/
theorem arr_err (V' : ℕ → ℕ → ℕ → ℝ) (hr : Reals (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) V') :
    (dats m 0 c).arrAt 6 cfg0.N = Cert.Solve.errarr (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 6 _ covers6 fun t hf y => ?_
  rw [after0_6, outs_err m c V' hr]
  exact goal_emb _ _ _ _ t y

end Cert.KernelIdeal.Solve

end
-- ==== Proof.PreRead.lean ====
/-
  What the precondition says of the arguments, at the extended reals: w, the codebook, hinv_u's upper triangle and v are
  finite, hinv_u's diagonal is nonzero, and v's blocks are the inverses of hinv_u's diagonal blocks' upper triangles.
-/
module

public import proofs.«01_k».proof.Pre_regular_with_inverses
public import Idealize.ShloMosaic.Lib.Pointwise
public import Idealize.ShloMosaic.Lib.ReduceAll
public import Idealize.ShloMosaic.Lib.IdealHost
public import Idealize.ShloMosaic.Lib.StackMember

@[expose] public section

set_option synthInstance.maxSize 4096
set_option maxRecDepth 100000

noncomputable section

namespace Cert.Pre_regular_with_inverses

open Idealize.ShloMosaic

variable [Facts]

variable {w : FVec Ideal S5x384x2560 .bf16} {codes : IVec S5x384x1280 8} {codebook : IVec S5x20x256x2 16}
  {hinv : FVec Ideal S2560x2560 .f32} {v : FVec Ideal S10x256x256 .f32}

/-- hinv_u's upper triangle. -/
abbrev upper (hinv : FVec Ideal S2560x2560 .f32) : FVec Ideal S2560x2560 .f32 :=
  fn_where (F := Ideal) (cmpi .sle (iotaInDim S2560x2560 32 0) (iotaInDim S2560x2560 32 1)) hinv (constant S_ .f32 0x00000000#32)

theorem and_elim {x y : IVec S_ 1} (h : andi x y = fun _ => 1#1) : (x = fun _ => 1#1) ∧ (y = fun _ => 1#1) :=
  ⟨funext fun i => (IntOp.andi_eq_one.1 (congrFun h i)).1, funext fun i => (IntOp.andi_eq_one.1 (congrFun h i)).2⟩

/-- `f32`'s infinity. -/
theorem inf_f32 : Ideal.ofBits .f32 0x7F800000#32 = (⊤ : EReal) := by simp [Ideal.ofBits, Ideal.ieee]

/-- An extended real below infinity in magnitude is a real. -/
theorem real_of_abs {x : EReal} (h : max x (-x) < ⊤) : ∃ y : ℝ, x = y := by
  induction x with
  | bot => simp at h
  | top => simp at h
  | coe y => exact ⟨y, rfl⟩

theorem bit_lt {x y : EReal} (h : BitVec.ofBool (decide (x < y)) = 1#1) : x < y := by
  by_contra hn
  rw [decide_eq_false hn] at h
  exact absurd h (by decide)

theorem bit_eq {x y : EReal} (h : BitVec.ofBool (decide (x = y)) = 1#1) : x = y := by
  by_contra hn
  rw [decide_eq_false hn] at h
  exact absurd h (by decide)

/-- Two numbers below 2560 as words compare as they are. -/
theorem word_lt (a b : ℕ) (ha : a < 2560) (hb : b < 2560) : ((BitVec.ofNat 32 a).slt (BitVec.ofNat 32 b)) = decide (a < b) := by
  have ea : (BitVec.ofNat 32 a).toInt = a := by
    rw [BitVec.toInt_eq_toNat_cond, BitVec.toNat_ofNat]; split <;> omega
  have eb : (BitVec.ofNat 32 b).toInt = b := by
    rw [BitVec.toInt_eq_toNat_cond, BitVec.toNat_ofNat]; split <;> omega
  rw [BitVec.slt, ea, eb]
  exact decide_eq_decide.2 Nat.cast_lt

theorem word_le (a b : ℕ) (ha : a < 2560) (hb : b < 2560) : ((BitVec.ofNat 32 a).sle (BitVec.ofNat 32 b)) = decide (a ≤ b) := by
  have ea : (BitVec.ofNat 32 a).toInt = a := by
    rw [BitVec.toInt_eq_toNat_cond, BitVec.toNat_ofNat]; split <;> omega
  have eb : (BitVec.ofNat 32 b).toInt = b := by
    rw [BitVec.toInt_eq_toNat_cond, BitVec.toNat_ofNat]; split <;> omega
  rw [BitVec.sle, ea, eb]
  exact decide_eq_decide.2 Nat.cast_le

theorem word_eq (a b : ℕ) (ha : a < 2560) (hb : b < 2560) : ((BitVec.ofNat 32 a) == (BitVec.ofNat 32 b)) = decide (a = b) := by
  rw [beq_eq_decide]
  refine decide_eq_decide.2 ⟨fun h => ?_, fun h => by rw [h]⟩
  have := congrArg BitVec.toNat h
  rw [BitVec.toNat_ofNat, BitVec.toNat_ofNat] at this
  omega

theorem upper_apply (a b : Fin 2560) : upper hinv (ix2 a b) = if a ≤ b then (hinv (ix2 a b) : EReal) else 0 := by
  show Scalar.select (BitVec.ofBool ((BitVec.ofNat 32 a.val).sle (BitVec.ofNat 32 b.val))) (hinv (ix2 a b)) (Ideal.ofBits .f32 0#32) = _
  rw [word_le _ _ a.isLt b.isLt, Ideal.ofBits_zero .f32]
  by_cases h : a.val ≤ b.val
  · rw [decide_eq_true h, if_pos (show a ≤ b from h)]; rfl
  · rw [decide_eq_false h, if_neg (show ¬ a ≤ b from h)]; rfl

/-- The identity matrix the products are compared with. -/
abbrev eye : FVec Ideal S256x256 .f32 :=
  fn_where_0 (F := Ideal) (cmpi .eq (iotaInDim S256x256 32 0) (iotaInDim S256x256 32 1)) (constant S_ .f32 0x3F800000#32) (constant S_ .f32 0x00000000#32)

theorem eye_apply (i d : Fin 256) : eye (ix2 i d) = if i = d then (1 : EReal) else 0 := by
  show Scalar.select (BitVec.ofBool ((BitVec.ofNat 32 i.val) == (BitVec.ofNat 32 d.val))) (Ideal.ofBits .f32 0x3F800000#32) (Ideal.ofBits .f32 0#32) = _
  rw [word_eq _ _ (by omega) (by omega), Ideal.ofBits_zero .f32, Ideal.ofBits_one_f32]
  by_cases h : i.val = d.val
  · rw [decide_eq_true h, if_pos (Fin.ext h)]; rfl
  · rw [decide_eq_false h, if_neg (fun e => h (congrArg Fin.val e))]; rfl

/-- One diagonal block of hinv_u's upper triangle times one block of v, compared with the identity. -/
abbrev blockEq (o j : ℕ) (hs : S2560x2560.Slices ![o, o] S256x256) (hv : S10x256x256.Slices ![j, 0, 0] S1x256x256)
    (hinv : FVec Ideal S2560x2560 .f32) (v : FVec Ideal S10x256x256 .f32) : IVec S256x256 1 :=
  cmpf .oeq (Host.dotGeneral dot_S256x256_S256x256_S256x256_1_0_0_1_n_n (some .fp32) (extractStridedSlice S256x256 ![o, o] (upper hinv) hs)
    (shapeCast S256x256 (extractStridedSlice S1x256x256 ![j, 0, 0] v hv) Facts.shapeCasts_S1x256x256_S256x256)) (id eye)

theorem slice_apply {α : Type} (x : S2560x2560.Idx → α) (o : ℕ) (hs : S2560x2560.Slices ![o, o] S256x256) (ho : o + 256 ≤ 2560) (i c : Fin 256) :
    extractStridedSlice S256x256 ![o, o] x hs (ix2 i c) = x (ix2 (⟨o + i.val, by omega⟩ : Fin 2560) (⟨o + c.val, by omega⟩ : Fin 2560)) := by
  pointwise

theorem block_read (o j : ℕ) (hs : S2560x2560.Slices ![o, o] S256x256) (hv : S10x256x256.Slices ![j, 0, 0] S1x256x256) (ho : o + 256 ≤ 2560) (hj : j < 10)
    (h : ∀ i, blockEq o j hs hv hinv v i = 1#1) (i d : Fin 256) :
    ∑ c : Fin 256, (if i ≤ c then (hinv (ix2 (⟨o + i.val, by omega⟩ : Fin 2560) (⟨o + c.val, by omega⟩ : Fin 2560)) : EReal) else 0) * v (ix3 (⟨j, hj⟩ : Fin 10) c d)
      = if i = d then 1 else 0 := by
  have h1 := bit_eq (show BitVec.ofBool (decide (_ = _)) = 1#1 from h (ix2 i d))
  have h2 := StackMember.dotGeneral_plain_apply (m := 256) (k := 256) (n := 256) (some .fp32) (extractStridedSlice S256x256 ![o, o] (upper hinv) hs)
    (shapeCast S256x256 (extractStridedSlice S1x256x256 ![j, 0, 0] v hv) Facts.shapeCasts_S1x256x256_S256x256) i d
  refine Eq.trans ?_ ((h2.symm.trans h1).trans (eye_apply i d))
  refine Finset.sum_congr rfl fun c _ => ?_
  congr 1
  · refine Eq.trans ?_ (slice_apply (upper hinv) o hs ho i c).symm
    refine Eq.trans ?_ (upper_apply (⟨o + i.val, by omega⟩ : Fin 2560) (⟨o + c.val, by omega⟩ : Fin 2560)).symm
    simp only [Fin.mk_le_mk, Nat.add_le_add_iff_left, Fin.val_fin_le]
  · pointwise

/-- What the precondition says. -/
structure Reads (w : FVec Ideal S5x384x2560 .bf16) (codebook : IVec S5x20x256x2 16) (hinv : FVec Ideal S2560x2560 .f32) (v : FVec Ideal S10x256x256 .f32) : Prop where
  w_fin : ∀ i, ∃ x : ℝ, (w i : EReal) = x
  cb_fin : ∀ i, ∃ x : ℝ, Ideal.ieee 8 7 (codebook i) = (x : EReal)
  h_fin : ∀ i l : Fin 2560, i ≤ l → ∃ x : ℝ, (hinv (ix2 i l) : EReal) = x
  h_diag : ∀ i : Fin 2560, (hinv (ix2 i i) : EReal) ≠ 0
  v_fin : ∀ i, ∃ x : ℝ, (v i : EReal) = x
  inv : ∀ (j : Fin 10) (i d : Fin 256),
    ∑ c : Fin 256, (if i ≤ c then (hinv (ix2 (⟨256 * j.val + i.val, by omega⟩ : Fin 2560) (⟨256 * j.val + c.val, by omega⟩ : Fin 2560)) : EReal) else 0) * v (ix3 j c d)
      = if i = d then 1 else 0

instance : Subsingleton S_.Idx := ⟨fun a b => funext fun i => i.elim0⟩

set_option maxHeartbeats 4000000 in
theorem reads (hp : fn (F := Ideal) w codes codebook hinv v = fun _ => 1#1) : Reads w codebook hinv v := by
  unfold fn fn_part1 fn_part2 fn_part3 fn_part4 fn_part5 at hp
  dsimp only at hp
  obtain ⟨hp, b9⟩ := and_elim hp
  obtain ⟨hp, b8⟩ := and_elim hp
  obtain ⟨hp, b7⟩ := and_elim hp
  obtain ⟨hp, b6⟩ := and_elim hp
  obtain ⟨hp, b5⟩ := and_elim hp
  obtain ⟨hp, b4⟩ := and_elim hp
  obtain ⟨hp, b3⟩ := and_elim hp
  obtain ⟨hp, b2⟩ := and_elim hp
  obtain ⟨hp, b1⟩ := and_elim hp
  obtain ⟨hp, b0⟩ := and_elim hp
  obtain ⟨hp, fv⟩ := and_elim hp
  obtain ⟨hp, fd⟩ := and_elim hp
  obtain ⟨hp, fh⟩ := and_elim hp
  obtain ⟨fw, fc⟩ := and_elim hp
  have rd : ∀ (o j : ℕ) (hs : S2560x2560.Slices ![o, o] S256x256) (hv : S10x256x256.Slices ![j, 0, 0] S1x256x256) (ho : o + 256 ≤ 2560) (hj : j < 10)
    (h : Host.reduce IntOp.andi (blockEq o j hs hv hinv v) (constantI S_ 1 1#1) Facts.reducesTo_S256x256_S_d0_1 Facts.h_S_ = fun _ => 1#1), _ :=
    fun o j hs hv ho hj h => block_read o j hs hv ho hj (fun i => Host.reduce_andi_all _ _ _ _ ix0 (congrFun h ix0) i)
  refine ⟨fun i => ?_, fun i => ?_, fun i l hil => ?_, fun i => ?_, fun i => ?_, fun j => ?_⟩
  · have h := Host.reduce_andi_all _ _ _ _ ix0 (congrFun fw ix0) i
    have h' := bit_lt (show BitVec.ofBool (decide ((max (w i : EReal) (-(w i : EReal))) < Ideal.ofBits .f32 0x7F800000#32)) = 1#1 from h)
    rw [inf_f32] at h'
    exact real_of_abs h'
  · have h := Host.reduce_andi_all _ _ _ _ ix0 (congrFun fc ix0) i
    have h' := bit_lt (show BitVec.ofBool (decide ((max (Ideal.ieee 8 7 (codebook i)) (-(Ideal.ieee 8 7 (codebook i)))) < Ideal.ofBits .f32 0x7F800000#32)) = 1#1 from h)
    rw [inf_f32] at h'
    exact real_of_abs h'
  · have h := Host.reduce_andi_all _ _ _ _ ix0 (congrFun fh ix0) (ix2 i l)
    have h' : IntOp.ori (BitVec.ofBool (decide ((max (hinv (ix2 i l) : EReal) (-(hinv (ix2 i l) : EReal))) < Ideal.ofBits .f32 0x7F800000#32)))
      (BitVec.ofBool ((BitVec.ofNat 32 l.val).slt (BitVec.ofNat 32 i.val))) = 1#1 := h
    rw [word_lt _ _ l.isLt i.isLt, decide_eq_false (Nat.not_lt.2 hil), inf_f32] at h'
    refine real_of_abs (bit_lt ?_)
    rw [← h']
    show _ = BitVec.ofBool _ ||| 0#1
    rw [BitVec.or_zero]
  · have h := Host.reduce_andi_all _ _ _ _ ix0 (congrFun fd ix0) (ix2 i i)
    intro h0
    have h' : IntOp.ori (BitVec.ofBool (decide ((hinv (ix2 i i) : EReal) ≠ Ideal.ofBits .f32 0x00000000#32)))
      (BitVec.ofBool ((BitVec.ofNat 32 i.val) != (BitVec.ofNat 32 i.val))) = 1#1 := h
    rw [h0, Ideal.ofBits_zero .f32] at h'
    simp [IntOp.ori] at h'
  · have h := Host.reduce_andi_all _ _ _ _ ix0 (congrFun fv ix0) i
    have h' := bit_lt (show BitVec.ofBool (decide ((max (v i : EReal) (-(v i : EReal))) < Ideal.ofBits .f32 0x7F800000#32)) = 1#1 from h)
    rw [inf_f32] at h'
    exact real_of_abs h'
  · match j with
    | ⟨0, _⟩ => exact rd 0 0 _ _ (by omega) (by omega) b0
    | ⟨1, _⟩ => exact rd 256 1 _ _ (by omega) (by omega) b1
    | ⟨2, _⟩ => exact rd 512 2 _ _ (by omega) (by omega) b2
    | ⟨3, _⟩ => exact rd 768 3 _ _ (by omega) (by omega) b3
    | ⟨4, _⟩ => exact rd 1024 4 _ _ (by omega) (by omega) b4
    | ⟨5, _⟩ => exact rd 1280 5 _ _ (by omega) (by omega) b5
    | ⟨6, _⟩ => exact rd 1536 6 _ _ (by omega) (by omega) b6
    | ⟨7, _⟩ => exact rd 1792 7 _ _ (by omega) (by omega) b7
    | ⟨8, _⟩ => exact rd 2048 8 _ _ (by omega) (by omega) b8
    | ⟨9, _⟩ => exact rd 2304 9 _ _ (by omega) (by omega) b9

end Cert.Pre_regular_with_inverses

end
-- ==== Proof.RefQ.lean ====
/-
  The reference's q and residual at the loop's entry, read at an index.
-/
module

public import proofs.«01_k».proof.Proof.Gen.ReferenceIdeal.Run
public import proofs.«01_k».proof.Proof.Values
public import Idealize.ShloMosaic.Lib.Pointwise
public import Idealize.ShloMosaic.Lib.DynamicIndex
public import Idealize.ShloMosaic.Lib.IdealHost

@[expose] public section

set_option synthInstance.maxSize 4096
set_option maxRecDepth 100000

noncomputable section

namespace Cert.ReferenceIdeal.Value

open Cert.ReferenceIdeal Cert.ReferenceIdeal.Gen Idealize.ShloMosaic Idealize.ShloMosaic.TcCoe Idealize.SL.Sem
open Idealize.ShloMosaic.StableHlo

/-- `2 * k // 128` as jax writes it. -/
def groupIdx : IVec S1280 32 :=
  let a : IVec S1280 32 := muli (broadcastInDim S1280 ![] bcast_S_S1280 (constantI S_ 32 2#32)) (iotaInDim S1280 32 0)
  let d : IVec S_ 32 := id (constantI S_ 32 128#32)
  let q : IVec S1280 32 := Host.divsi a (broadcastInDim S1280 ![] bcast_S_S1280 d)
  select (andi (cmpi .ne (signi a) (broadcastInDim S1280 ![] bcast_S_S1280 (signi d)))
      (cmpi .ne (Host.remsi a (broadcastInDim S1280 ![] bcast_S_S1280 d)) (broadcastInDim S1280 ![] bcast_S_S1280 (constantI S_ 32 0#32))))
    (subi q (broadcastInDim S1280 ![] bcast_S_S1280 (constantI S_ 32 1#32))) q

/-- The three coordinates the gather starts at. -/
def starts (grp : IVec S1280 32) (codes : IVec S5x384x1280 8) : IVec S5x384x1280x3 32 :=
  let m6 : IVec S5x1x1 32 := broadcastInDim S5x1x1 ![0] bcast_S5_S5x1x1_0 (iotaInDim S5 32 0)
  let g7 : IVec S1x1x1280 32 := broadcastInDim S1x1x1280 ![2] bcast_S1280_S1x1x1280_2 grp
  let c8 : IVec S5x384x1280 32 := extui 32 codes natLt_8_32
  let m13 : IVec S5x1x1 32 := select (cmpi .slt m6 (broadcastInDim S5x1x1 ![] bcast_S_S5x1x1 (constantI S_ 32 0#32)))
    (addi m6 (broadcastInDim S5x1x1 ![] bcast_S_S5x1x1 (constantI S_ 32 5#32))) m6
  let g18 : IVec S1x1x1280 32 := select (cmpi .slt g7 (broadcastInDim S1x1x1280 ![] bcast_S_S1x1x1280 (constantI S_ 32 0#32)))
    (addi g7 (broadcastInDim S1x1x1280 ![] bcast_S_S1x1x1280 (constantI S_ 32 20#32))) g7
  let c23 : IVec S5x384x1280 32 := select (cmpi .slt c8 (broadcastInDim S5x384x1280 ![] bcast_S_S5x384x1280 (constantI S_ 32 0#32)))
    (addi c8 (broadcastInDim S5x384x1280 ![] bcast_S_S5x384x1280 (constantI S_ 32 256#32))) c8
  concatenate S5x384x1280x3 3 [
    ⟨S5x384x1280x1, broadcastInDim S5x384x1280x1 ![0, 1, 2] bcast_S5x384x1280_S5x384x1280x1_0_1_2 (broadcastInDim S5x384x1280 ![0, 1, 2] bcast_S5x1x1_S5x384x1280_0_1_2 m13)⟩,
    ⟨S5x384x1280x1, broadcastInDim S5x384x1280x1 ![0, 1, 2] bcast_S5x384x1280_S5x384x1280x1_0_1_2 (broadcastInDim S5x384x1280 ![0, 1, 2] bcast_S1x1x1280_S5x384x1280_0_1_2 g18)⟩,
    ⟨S5x384x1280x1, broadcastInDim S5x384x1280x1 ![0, 1, 2] bcast_S5x384x1280_S5x384x1280x1_0_1_2 c23⟩]
    concatenates_S5x384x1280x1_S5x384x1280x1_S5x384x1280x1_S5x384x1280x3_d3

/-- The reference's q. -/
def qref (codes : IVec S5x384x1280 8) (cb : IVec S5x20x256x2 16) : FVec Ideal S5x384x2560 .bf16 :=
  shapeCast S5x384x2560 (Host.gather gather_S5x20x256x2_S5x384x1280x3_S5x384x1280x2_3_012_n_n_012_3_1112 (bitcastToFloat (F := Ideal) .bf16 cb) (starts groupIdx codes))
    shapeCasts_S5x384x1280x2_S5x384x2560

variable (m : (ℓ : Loc nD τ sig) → Buf (Elt Ideal) ℓ) (c : Dev nD)

set_option maxHeartbeats 1000000 in
theorem tail_q (V : Valuation τ sig (Elt Ideal)) : after hostOps0_2 V (Proc.devRef .tc main_v31)
    = shapeCast S5x384x2560 (Host.gather gather_S5x20x256x2_S5x384x1280x3_S5x384x1280x2_3_012_n_n_012_3_1112 (V (Proc.devRef .tc main_v0) : FVec Ideal S5x20x256x2 .bf16)
      (starts (V (Proc.devRef .tc main_v4)) (V (Proc.devRef .tc main_arg1)))) shapeCasts_S5x384x1280x2_S5x384x2560 := by
  after_reads_simp
  rfl

set_option maxHeartbeats 1000000 in
theorem tail_r (V : Valuation τ sig (Elt Ideal)) : after hostOps0_2 V (Proc.devRef .tc main_v37_5)
    = (shapeCast S1920x2560 (subf (extf (F := Ideal) (φ := .bf16) .f32 (V (Proc.devRef .tc main_arg0) : FVec Ideal S5x384x2560 .bf16) bitsLt_bf16_f32 : FVec Ideal S5x384x2560 .f32)
      (extf (F := Ideal) (φ := .bf16) .f32 (after hostOps0_2 V (Proc.devRef .tc main_v31) : FVec Ideal S5x384x2560 .bf16) bitsLt_bf16_f32) : FVec Ideal S5x384x2560 .f32)
      shapeCasts_S5x384x2560_S1920x2560 : FVec Ideal S1920x2560 .f32) := by
  after_reads_simp
  rfl

theorem mid_g (V : Valuation τ sig (Elt Ideal)) (h3 : V (Proc.devRef .tc main_v3) = muli (broadcastInDim S1280 ![] bcast_S_S1280 (constantI S_ 32 2#32)) (iotaInDim S1280 32 0))
    (h0 : V (Proc.devRef .tc main_c_0) = constantI S_ 32 128#32) : after hostOps0_1 V (Proc.devRef .tc main_v4) = groupIdx := by
  after_reads_simp
  rw [h3, h0]
  rfl

theorem entry_q : entryContents (preI (F := Ideal)) m c (Proc.devRef .tc main_v31)
    = qref (m ((c.tc : Thread nD τ).loc main_arg1)) (m ((c.tc : Thread nD τ).loc main_arg2)) := by
  simp only [entryContents, afterL_cons, afterL_nil]
  have e0 : after hostOps0 (launchContents m c) (Proc.devRef .tc main_v0) = bitcastToFloat (F := Ideal) .bf16 (m ((c.tc : Thread nD τ).loc main_arg2)) := by
    after_reads_simp
  rw [tail_q, mid_g _ (by after_reads_simp) (by after_reads_simp), after_of_writes_sub hostOps0_1 _ hostOps0_1_writes (by decide +kernel),
    after_of_writes_sub hostOps0_1 _ hostOps0_1_writes (by decide +kernel), after_of_writes_sub (r := main_arg1) hostOps0 _ hostOps0_writes (by decide +kernel), e0]
  rfl

theorem entry_r : entryContents (preI (F := Ideal)) m c (Proc.devRef .tc main_v37_5)
    = shapeCast S1920x2560 (subf (extf .f32 (m ((c.tc : Thread nD τ).loc main_arg0) : FVec Ideal S5x384x2560 .bf16) bitsLt_bf16_f32)
      (extf .f32 (qref (m ((c.tc : Thread nD τ).loc main_arg1)) (m ((c.tc : Thread nD τ).loc main_arg2))) bitsLt_bf16_f32))
      shapeCasts_S5x384x2560_S1920x2560 := by
  have h := entry_q m c
  simp only [entryContents, afterL_cons, afterL_nil] at h ⊢
  rw [tail_r, h, after_of_writes_sub hostOps0_1 _ hostOps0_1_writes (by decide +kernel), after_of_writes_sub hostOps0 _ hostOps0_writes (by decide +kernel)]

theorem entry_u : entryContents (preI (F := Ideal)) m c (Proc.devRef .tc main_v37_1) = m ((c.tc : Thread nD τ).loc main_arg3) := by
  simp only [entryContents, afterL_cons, afterL_nil]
  after_reads_simp
  rfl

theorem entry_iota : entryContents (preI (F := Ideal)) m c (Proc.devRef .tc main_v37_2) = iotaInDim S1x2560 32 1 := by
  simp only [entryContents, afterL_cons, afterL_nil]
  after_reads_simp
  rfl

theorem entry_k : entryContents (preI (F := Ideal)) m c (Proc.devRef .tc main_v37_4) = constantI S_ 32 (BitVec.ofNat 32 0) := by
  simp only [entryContents, afterL_cons, afterL_nil]
  after_reads_simp
  rfl

end Cert.ReferenceIdeal.Value

end
-- ==== Proof.RefGather.lean ====
/-
  The reference's gather read at an index.
-/
module

public import proofs.«01_k».proof.Proof.RefQ

@[expose] public section

set_option synthInstance.maxSize 4096
set_option maxRecDepth 100000

noncomputable section

namespace Cert.ReferenceIdeal.Value

open Cert.ReferenceIdeal Cert.ReferenceIdeal.Gen Idealize.ShloMosaic Idealize.ShloMosaic.TcCoe Idealize.SL.Sem
open Idealize.ShloMosaic.StableHlo

abbrev gd := gather_S5x20x256x2_S5x384x1280x3_S5x384x1280x2_3_012_n_n_012_3_1112

theorem gather_read {α : Type} (x : S5x20x256x2.Idx → α) (idx : IVec S5x384x1280x3 32) (m : Fin 5) (r : Fin 384) (k : Fin 1280) (e : Fin 2)
    (g : Fin 20) (n : Fin 256) (h0 : (idx (ix4 m r k (0 : Fin 3))).toInt = m.val) (h1 : (idx (ix4 m r k (1 : Fin 3))).toInt = g.val)
    (h2 : (idx (ix4 m r k (2 : Fin 3))).toInt = n.val) :
    Host.gather gd x idx (ix4 m r k e) = x (ix4 m g n e) := by
  unfold Host.gather
  congr 1
  funext a
  refine Fin.ext ?_
  show gd.start (ix4 m r k e) idx a + gd.batchCoord (ix4 m r k e) a + gd.offCoord (ix4 m r k e) a = _
  have hsi : ∀ q : Fin 3, gd.siIdx (ix4 m r k e) q = ix4 m r k q := by
    intro q
    funext b
    refine Fin.ext ?_
    match b with
    | ⟨0, _⟩ => rfl
    | ⟨1, _⟩ => rfl
    | ⟨2, _⟩ => rfl
    | ⟨3, _⟩ => rfl
  rw [GatherDims.batchCoord_eq_zero _ _ _ List.not_mem_nil]
  match a with
  | ⟨0, _⟩ =>
    rw [GatherDims.offCoord_eq_zero _ _ _ (fun h => ((GatherDims.mem_sKept _ _).mp h).1 (show ((0 : Fin 4)) ∈ ([0, 1, 2] : List (Fin 4)) by decide))]
    show min (idx (gd.siIdx (ix4 m r k e) (0 : Fin 3))).toInt.toNat 4 + 0 + 0 = m.val
    rw [hsi, h0]; omega
  | ⟨1, _⟩ =>
    rw [GatherDims.offCoord_eq_zero _ _ _ (fun h => ((GatherDims.mem_sKept _ _).mp h).1 (show ((1 : Fin 4)) ∈ ([0, 1, 2] : List (Fin 4)) by decide))]
    show min (idx (gd.siIdx (ix4 m r k e) (1 : Fin 3))).toInt.toNat 19 + 0 + 0 = g.val
    rw [hsi, h1]; omega
  | ⟨2, _⟩ =>
    rw [GatherDims.offCoord_eq_zero _ _ _ (fun h => ((GatherDims.mem_sKept _ _).mp h).1 (show ((2 : Fin 4)) ∈ ([0, 1, 2] : List (Fin 4)) by decide))]
    show min (idx (gd.siIdx (ix4 m r k e) (2 : Fin 3))).toInt.toNat 255 + 0 + 0 = n.val
    rw [hsi, h2]; omega
  | ⟨3, _⟩ =>
    show 0 + 0 + e.val = e.val
    omega

/-- A word below 2^31 that jax's wraparound leaves alone. -/
theorem wrap_word (n : ℕ) (hn : n < 2 ^ 31) (y : BitVec 32) :
    (Scalar.select (BitVec.ofBool ((BitVec.ofNat 32 n).slt 0#32)) y (BitVec.ofNat 32 n)).toInt = n := by
  have e : (BitVec.ofNat 32 n).toInt = n := by
    rw [BitVec.toInt_eq_toNat_cond, BitVec.toNat_ofNat]; split <;> omega
  have h : ((BitVec.ofNat 32 n).slt 0#32) = false := by
    rw [BitVec.slt, e]
    exact decide_eq_false (by simp)
  rw [h]
  exact e

theorem concat3 (A B C : IVec S5x384x1280x1 32) (m : Fin 5) (r : Fin 384) (k : Fin 1280) (q : Fin 3) :
    concatenate S5x384x1280x3 3 [⟨S5x384x1280x1, A⟩, ⟨S5x384x1280x1, B⟩, ⟨S5x384x1280x1, C⟩]
      concatenates_S5x384x1280x1_S5x384x1280x1_S5x384x1280x1_S5x384x1280x3_d3 (ix4 m r k q)
      = (if q.val = 0 then A else if q.val = 1 then B else C) (ix4 m r k (0 : Fin 1)) := by
  match q with
  | ⟨0, _⟩ => pointwise
  | ⟨1, _⟩ => pointwise
  | ⟨2, _⟩ => pointwise

theorem bcast_c (A : IVec S5x384x1280 32) (m : Fin 5) (r : Fin 384) (k : Fin 1280) :
    broadcastInDim S5x384x1280x1 ![0, 1, 2] bcast_S5x384x1280_S5x384x1280x1_0_1_2 A (ix4 m r k (0 : Fin 1)) = A (ix3 m r k) := by
  pointwise

theorem bcast_m (A : IVec S5x1x1 32) (m : Fin 5) (r : Fin 384) (k : Fin 1280) :
    broadcastInDim S5x384x1280 ![0, 1, 2] bcast_S5x1x1_S5x384x1280_0_1_2 A (ix3 m r k) = A (ix3 m (0 : Fin 1) (0 : Fin 1)) := by
  pointwise

theorem bcast_g (A : IVec S1x1x1280 32) (m : Fin 5) (r : Fin 384) (k : Fin 1280) :
    broadcastInDim S5x384x1280 ![0, 1, 2] bcast_S1x1x1280_S5x384x1280_0_1_2 A (ix3 m r k) = A (ix3 (0 : Fin 1) (0 : Fin 1) k) := by
  pointwise

theorem bcast_g1 (A : IVec S1280 32) (k : Fin 1280) :
    broadcastInDim S1x1x1280 ![2] bcast_S1280_S1x1x1280_2 A (ix3 (0 : Fin 1) (0 : Fin 1) k) = A (ix1 k) := by
  pointwise

theorem bcast_m1 (A : IVec S5 32) (m : Fin 5) :
    broadcastInDim S5x1x1 ![0] bcast_S5_S5x1x1_0 A (ix3 m (0 : Fin 1) (0 : Fin 1)) = A (ix1 m) := by
  pointwise

theorem group_word : ∀ k : Fin 1280, groupIdx (ix1 k) = BitVec.ofNat 32 (k.val / 64) := by
  decide +kernel

theorem starts0 (codes : IVec S5x384x1280 8) (m : Fin 5) (r : Fin 384) (k : Fin 1280) : (starts groupIdx codes (ix4 m r k (0 : Fin 3))).toInt = m.val := by
  unfold starts
  rw [concat3]
  rw [if_pos (show (0 : Fin 3).val = 0 from rfl), bcast_c, bcast_m]
  have e := bcast_m1 (iotaInDim S5 32 0) m
  show (Scalar.select (BitVec.ofBool (BitVec.slt _ 0#32)) _ _ : BitVec 32).toInt = _
  rw [e]
  exact wrap_word m.val (by omega) _

theorem starts1 (codes : IVec S5x384x1280 8) (m : Fin 5) (r : Fin 384) (k : Fin 1280) : (starts groupIdx codes (ix4 m r k (1 : Fin 3))).toInt = (k.val / 64 : ℕ) := by
  unfold starts
  rw [concat3]
  rw [if_neg (by decide), if_pos (show (1 : Fin 3).val = 1 from rfl), bcast_c, bcast_g]
  have e := (bcast_g1 groupIdx k).trans (group_word k)
  show (Scalar.select (BitVec.ofBool (BitVec.slt _ 0#32)) _ _ : BitVec 32).toInt = _
  rw [e]
  exact wrap_word _ (by omega) _

theorem starts2 (codes : IVec S5x384x1280 8) (m : Fin 5) (r : Fin 384) (k : Fin 1280) : (starts groupIdx codes (ix4 m r k (2 : Fin 3))).toInt = ((codes (ix3 m r k)).toNat : ℕ) := by
  unfold starts
  rw [concat3]
  rw [if_neg (by decide), if_neg (by decide), bcast_c]
  have hl := (codes (ix3 m r k)).isLt
  have e : (extui 32 codes natLt_8_32 : IVec S5x384x1280 32) (ix3 m r k) = BitVec.ofNat 32 (codes (ix3 m r k)).toNat := by
    apply BitVec.eq_of_toNat_eq
    show (BitVec.setWidth 32 (codes (ix3 m r k))).toNat = _
    rw [BitVec.toNat_setWidth, BitVec.toNat_ofNat]
  show (Scalar.select (BitVec.ofBool (BitVec.slt _ 0#32)) _ _ : BitVec 32).toInt = _
  rw [e]
  exact wrap_word _ (by omega) _

theorem cast_pair {α : Type} (x : S5x384x1280x2.Idx → α) (m : Fin 5) (r : Fin 384) (l : Fin 2560) :
    shapeCast S5x384x2560 x shapeCasts_S5x384x1280x2_S5x384x2560 (ix3 m r l) = x (ix4 m r (⟨l.val / 2, by omega⟩ : Fin 1280) (⟨l.val % 2, by omega⟩ : Fin 2)) := by
  pointwise

/-- The reference's q is the codebook's. -/
theorem qref_apply (codes : IVec S5x384x1280 8) (cb : IVec S5x20x256x2 16) (m : Fin 5) (r : Fin 384) (l : Fin 2560) :
    qref codes cb (ix3 m r l) = Cert.Solve.qval codes cb m r l := by
  unfold qref
  rw [cast_pair, gather_read _ _ _ _ _ _ (⟨l.val / 2 / 64, by omega⟩ : Fin 20) (⟨(codes (ix3 m r (⟨l.val / 2, by omega⟩ : Fin 1280))).toNat, (codes _).isLt⟩ : Fin 256)
    (starts0 ..) (starts1 ..) (starts2 ..)]
  unfold Cert.Solve.qval Cert.Solve.qbits
  have e : (⟨l.val / 2 / 64, by omega⟩ : Fin 20) = ⟨l.val / 128, by omega⟩ := Fin.ext (by show l.val / 2 / 64 = l.val / 128; omega)
  rw [e]
  rfl

theorem cast_back {α : Type} (x : S1920x2560.Idx → α) (m : Fin 5) (r : Fin 384) (l : Fin 2560) :
    shapeCast S5x384x2560 x shapeCasts_S1920x2560_S5x384x2560 (ix3 m r l) = x (ix2 (⟨384 * m.val + r.val, by omega⟩ : Fin 1920) l) := by
  pointwise
  exact congrArg (fun z : Fin 1920 => x (ix2 z l)) (Fin.ext (by show m.val * 384 + r.val = 384 * m.val + r.val; omega))

theorem cast_rows {α : Type} (x : S5x384x2560.Idx → α) (m : Fin 5) (r : Fin 384) (l : Fin 2560) :
    shapeCast S1920x2560 x shapeCasts_S5x384x2560_S1920x2560 (ix2 (⟨384 * m.val + r.val, by omega⟩ : Fin 1920) l) = x (ix3 m r l) := by
  have h := cast_back (shapeCast S1920x2560 x shapeCasts_S5x384x2560_S1920x2560) m r l
  rw [← h, shapeCast_comp, shapeCast_id]

end Cert.ReferenceIdeal.Value

end
-- ==== Proof.RefStep.lean ====
/-
  The reference's loop over the reals: after `k` trips the carried array holds the recurrence's state.
-/
module

public import proofs.«01_k».proof.Proof.Gen.ReferenceIdeal.Run
public import proofs.«01_k».proof.Proof.Recurrence
public import Idealize.ShloMosaic.Lib.Pointwise
public import Idealize.ShloMosaic.Lib.DynamicIndex
public import Idealize.ShloMosaic.Lib.IdealHost

@[expose] public section

set_option synthInstance.maxSize 4096
set_option maxRecDepth 100000

noncomputable section

namespace Cert.ReferenceIdeal.Value

open Cert.ReferenceIdeal Cert.ReferenceIdeal.Gen Idealize.ShloMosaic Idealize.ShloMosaic.TcCoe Idealize.SL.Sem
open Idealize.ShloMosaic.StableHlo Cert.Recurrence

/-- The column number as jax wraps it is itself. -/
theorem wrap_toInt (k : ℕ) (hk : k < 2560) (i : S_.Idx) :
    (select (cmpi .slt (constantI S_ 32 (BitVec.ofNat 32 k)) (constantI S_ 32 0#32))
      (addi (id (constantI S_ 32 (BitVec.ofNat 32 k))) (constantI S_ 32 2560#32)) (constantI S_ 32 (BitVec.ofNat 32 k)) i : BitVec 32).toInt = (k : ℤ) :=
  toInt_wrap_ofNat k (by omega)

/-- A division of reals with a nonzero divisor is the reals'. -/
theorem div_real (x y : ℝ) (h : y ≠ 0) : Ideal.div (x : EReal) (y : EReal) = ((x / y : ℝ) : EReal) := by
  rw [Ideal.div_coe h, ← EReal.coe_mul, mul_one_div]

/-- One element sliced out of the square. -/
theorem slice11 (k : ℕ) (hk : k < 2560) (X : FVec Ideal S2560x2560 .f32) (st : Fin 2 → ℤ) (h : S2560x2560.Slices (fun _ => 0) S1x1)
    (hs : ∀ a : Fin 2, st a = ((![k, k] a : ℕ) : ℤ)) :
    Host.dynamicSlice S1x1 X st h (ix2 (0 : Fin 1) (0 : Fin 1)) = X (ix2 (⟨k, hk⟩ : Fin 2560) (⟨k, hk⟩ : Fin 2560)) := by
  refine (congrFun (Host.dynamicSlice_eq_extractStridedSlice S1x1 X st ![k, k] h ⟨rfl, fun a => by
    match a with
    | ⟨0, _⟩ => show k + 1 ≤ 2560; omega
    | ⟨1, _⟩ => show k + 1 ≤ 2560; omega⟩ hs) _).trans ?_
  pointwise

set_option maxHeartbeats 1000000 in
/-- What a trip leaves at an index, from the quotient column, the row and the array before it. -/
theorem step_apply (k : ℕ) (e : FVec Ideal S1920x1 .f32) (x : FVec Ideal S1920x2560 .f32) (y : FVec Ideal S1x2560 .f32) (r : Fin 1920) (l : Fin 2560) :
    (id (select (broadcastInDim S1920x2560 ![0, 1] bcast_S1x2560_S1920x2560_0_1 (cmpi .eq (iotaInDim S1x2560 32 1) (broadcastInDim S1x2560 ![] bcast_S_S1x2560 (id (constantI S_ 32 (BitVec.ofNat 32 k)))))) (broadcastInDim S1920x2560 ![0, 1] bcast_S1920x1_S1920x2560_0_1 e) (subf x (mulf (broadcastInDim S1920x2560 ![0, 1] bcast_S1920x1_S1920x2560_0_1 e) (broadcastInDim S1920x2560 ![0, 1] bcast_S1x2560_S1920x2560_0_1 (select (cmpi .sgt (iotaInDim S1x2560 32 1) (broadcastInDim S1x2560 ![] bcast_S_S1x2560 (id (constantI S_ 32 (BitVec.ofNat 32 k))))) y (broadcastInDim S1x2560 ![] bcast_S_S1x2560 (id (constant S_ .f32 0x00000000#32)))))))) : FVec Ideal S1920x2560 .f32) (ix2 r l)
      = Scalar.select (IntOp.cmpi .eq (BitVec.ofNat 32 l.val) (BitVec.ofNat 32 k)) (e (ix2 r (0 : Fin 1)))
        ((x (ix2 r l) : EReal) - Scalar.select (IntOp.cmpi .sgt (BitVec.ofNat 32 l.val) (BitVec.ofNat 32 k)) ((e (ix2 r (0 : Fin 1)) : EReal) * y (ix2 (0 : Fin 1) l)) 0) := by
  pointwise [id]

section Step

variable (V0 : Valuation τ sig (Elt Ideal)) (k : ℕ) (hk : k < 2560)
  (h4 : V0 (Proc.devRef .tc main_v37_4) = constantI S_ 32 (BitVec.ofNat 32 k))

include hk h4 in
/-- The row of `hinv_u` a trip reads. -/
theorem urow_apply (X : FVec Ideal S2560x2560 .f32) (l : Fin 2560) :
    Host.dynamicSlice S1x2560 X (fun k => (((![select (cmpi .slt (V0 (Proc.devRef .tc main_v37_4)) (constantI S_ 32 0#32)) (addi (id (V0 (Proc.devRef .tc main_v37_4))) (constantI S_ 32 2560#32)) (V0 (Proc.devRef .tc main_v37_4)), constantI S_ 32 0#32] : Fin 2 → (⟨S_, .i32⟩ : BufTy).Contents (Elt Ideal))) k (Shape.Idx.first h_S_)).toInt) sliceFits_S2560x2560_S1x2560 (ix2 (0 : Fin 1) l)
      = X (ix2 (⟨k, hk⟩ : Fin 2560) l) := by
  rw [h4]
  refine (congrFun (Host.dynamicSlice_eq_extractStridedSlice S1x2560 X _ ![k, 0] _ ⟨rfl, fun a => by
    match a with
    | ⟨0, _⟩ => show k + 1 ≤ 2560; omega
    | ⟨1, _⟩ => show 0 + 2560 ≤ 2560; omega⟩ (fun a => by
    match a with
    | ⟨0, _⟩ => exact wrap_toInt k hk _
    | ⟨1, _⟩ => rfl)) _).trans ?_
  unfold extractStridedSlice
  congr 1
  funext b
  match b with
  | ⟨0, _⟩ => rfl
  | ⟨1, _⟩ => exact Fin.ext (Nat.zero_add l.val)

include hk h4 in
/-- The quotient column a trip makes. -/
theorem ecol_apply (r : Fin 1920) :
    res_main_while0b_v60 V0 (ix2 r (0 : Fin 1))
      = Ideal.div ((V0 (Proc.devRef .tc main_v37_5) : FVec Ideal S1920x2560 .f32) (ix2 r (⟨k, hk⟩ : Fin 2560)))
          ((V0 (Proc.devRef .tc main_v37_1) : FVec Ideal S2560x2560 .f32) (ix2 (⟨k, hk⟩ : Fin 2560) (⟨k, hk⟩ : Fin 2560))) := by
  unfold res_main_while0b_v60
  rw [h4]
  refine (ValueIdx.hostDivf_apply _ _ _).trans ?_
  refine congrArg₂ Ideal.div ?_ ?_
  · refine (congrFun (Host.dynamicSlice_eq_extractStridedSlice S1920x1 (V0 (Proc.devRef .tc main_v37_5) : FVec Ideal S1920x2560 .f32) _ ![0, k] _ ⟨rfl, fun a => by
      match a with
      | ⟨0, _⟩ => show 0 + 1920 ≤ 1920; omega
      | ⟨1, _⟩ => show k + 1 ≤ 2560; omega⟩ (fun a => by
      match a with
      | ⟨0, _⟩ => rfl
      | ⟨1, _⟩ => exact wrap_toInt k hk _)) _).trans ?_
    unfold extractStridedSlice
    congr 1
    funext b
    match b with
    | ⟨0, _⟩ => exact Fin.ext (Nat.zero_add r.val)
    | ⟨1, _⟩ => rfl
  · have hb : ∀ X : FVec Ideal S1x1 .f32, broadcastInDim S1920x1 ![0, 1] bcast_S1x1_S1920x1_0_1 X (ix2 r (0 : Fin 1)) = X (ix2 (0 : Fin 1) (0 : Fin 1)) := by
      intro X
      pointwise
    refine (hb _).trans ?_
    exact slice11 k hk _ _ _ (fun a => by
      match a with
      | ⟨0, _⟩ => exact wrap_toInt k hk _
      | ⟨1, _⟩ => exact wrap_toInt k hk _)

variable (R : Fin 1920 → ℕ → ℝ) (U : ℕ → ℕ → ℝ)
  (h2 : V0 (Proc.devRef .tc main_v37_2) = iotaInDim S1x2560 32 1)
  (h1 : ∀ (i l : Fin 2560), i ≤ l → (V0 (Proc.devRef .tc main_v37_1) : FVec Ideal S2560x2560 .f32) (ix2 i l) = ((U i.val l.val : ℝ) : EReal))
  (hd : ∀ i, i < 2560 → U i i ≠ 0)
  (h5 : ∀ (r : Fin 1920) (l : Fin 2560), (V0 (Proc.devRef .tc main_v37_5) : FVec Ideal S1920x2560 .f32) (ix2 r l) = ((state (R r) U k l.val : ℝ) : EReal))

include hk h4 h2 h1 hd h5 in
/-- One trip takes the recurrence's state at `k` to its state at `k + 1`. -/
theorem step_state (r : Fin 1920) (l : Fin 2560) :
    (step_main_v37_5 V0 : FVec Ideal S1920x2560 .f32) (ix2 r l) = ((state (R r) U (k + 1) l.val : ℝ) : EReal) := by
  have he : res_main_while0b_v60 V0 (ix2 r (0 : Fin 1)) = ((state (R r) U k k / U k k : ℝ) : EReal) := by
    rw [ecol_apply V0 k hk h4 r, h5, h1 _ _ le_rfl, div_real _ _ (hd k hk)]
  have hu := urow_apply V0 k hk h4 (V0 (Proc.devRef .tc main_v37_1)) l
  unfold step_main_v37_5
  generalize res_main_while0b_v60 V0 = e at he
  generalize Host.dynamicSlice S1x2560 _ _ _ = u at hu ⊢
  rw [h4, h2]
  have hcl : (BitVec.ofNat 32 l.val).toNat = l.val := by rw [BitVec.toNat_ofNat]; have := l.isLt; omega
  have hck : (BitVec.ofNat 32 k).toNat = k := by rw [BitVec.toNat_ofNat]; omega
  have heq : IntOp.cmpi .eq (BitVec.ofNat 32 l.val) (BitVec.ofNat 32 k) = BitVec.ofBool (decide (l.val = k)) := by
    refine congrArg BitVec.ofBool ?_
    show (BitVec.ofNat 32 l.val == BitVec.ofNat 32 k) = _
    rw [beq_eq_decide]
    refine decide_eq_decide.2 ⟨fun h => ?_, fun h => by rw [h]⟩
    have := congrArg BitVec.toNat h
    rwa [hcl, hck] at this
  have hgt : IntOp.cmpi .sgt (BitVec.ofNat 32 l.val) (BitVec.ofNat 32 k) = BitVec.ofBool (decide (k < l.val)) := by
    refine congrArg BitVec.ofBool ?_
    show decide ((BitVec.ofNat 32 k).toInt < (BitVec.ofNat 32 l.val).toInt) = _
    rw [toInt_ofNat_of_lt (by omega), toInt_ofNat_of_lt (by have := l.isLt; omega)]
    exact decide_eq_decide.2 Nat.cast_lt
  refine (step_apply k e (V0 (Proc.devRef .tc main_v37_5)) u r l).trans ?_
  rw [heq, hgt, he, hu, h5]
  by_cases h : l.val = k
  · rw [decide_eq_true h, h]
    show _ = ((state (R r) U (k + 1) k : ℝ) : EReal)
    simp [state, Scalar.select]
  · rw [decide_eq_false h]
    by_cases hlt : k < l.val
    · rw [decide_eq_true hlt, h1 _ _ (show (⟨k, hk⟩ : Fin 2560) ≤ l from hlt.le)]
      rw [state, if_neg h, if_pos hlt]
      simp [Scalar.select]
    · rw [decide_eq_false hlt, state, if_neg h, if_neg hlt]
      simp [Scalar.select]

end Step

end Cert.ReferenceIdeal.Value

end
-- ==== Proof.RefValue.lean ====
/-
  The reference's run: its two results are q and err.
-/
module

public import proofs.«01_k».proof.Proof.RefGather
public import proofs.«01_k».proof.Proof.RefStep

@[expose] public section

set_option synthInstance.maxSize 4096
set_option maxRecDepth 100000

noncomputable section

namespace Cert.ReferenceIdeal.Value

open Cert.ReferenceIdeal Cert.ReferenceIdeal.Gen Idealize.ShloMosaic Idealize.ShloMosaic.TcCoe Idealize.SL.Sem
open Idealize.ShloMosaic.StableHlo Cert.Recurrence

variable (m : (ℓ : Loc nD τ sig) → Buf (Elt Ideal) ℓ) (c : Dev nD)

/-- The matrix and the row of a row of the flattened residual. -/
abbrev rowR (w : FVec Ideal S5x384x2560 .bf16) (codes : IVec S5x384x1280 8) (cb : IVec S5x20x256x2 16) (r : Fin 1920) : ℕ → ℝ :=
  Cert.Solve.resid w codes cb (⟨r.val / 384, by omega⟩ : Fin 5) (⟨r.val % 384, by omega⟩ : Fin 384)

/-- The arguments are the reals the precondition makes them. -/
structure Real (w : FVec Ideal S5x384x2560 .bf16) (codes : IVec S5x384x1280 8) (cb : IVec S5x20x256x2 16) (hinv : FVec Ideal S2560x2560 .f32) : Prop where
  w_fin : ∀ i, ∃ x : ℝ, (w i : EReal) = x
  cb_fin : ∀ i, ∃ x : ℝ, Ideal.ieee 8 7 (cb i) = (x : EReal)
  h_fin : ∀ i l : Fin 2560, i ≤ l → ∃ x : ℝ, (hinv (ix2 i l) : EReal) = x
  h_diag : ∀ i : Fin 2560, (hinv (ix2 i i) : EReal) ≠ 0

theorem cast_rows' {α : Type} (x : S5x384x2560.Idx → α) (r : Fin 1920) (l : Fin 2560) :
    shapeCast S1920x2560 x shapeCasts_S5x384x2560_S1920x2560 (ix2 r l) = x (ix3 (⟨r.val / 384, by omega⟩ : Fin 5) (⟨r.val % 384, by omega⟩ : Fin 384) l) := by
  have er : r = (⟨384 * (r.val / 384) + r.val % 384, by omega⟩ : Fin 1920) := Fin.ext (Nat.div_add_mod _ _).symm
  have h := cast_rows x (⟨r.val / 384, by omega⟩ : Fin 5) (⟨r.val % 384, by omega⟩ : Fin 384) l
  exact (congrArg (fun z => shapeCast S1920x2560 x shapeCasts_S5x384x2560_S1920x2560 (ix2 z l)) er).trans h

theorem resid_apply (w : FVec Ideal S5x384x2560 .bf16) (codes : IVec S5x384x1280 8) (cb : IVec S5x20x256x2 16) (hinv : FVec Ideal S2560x2560 .f32)
    (hr : Real w codes cb hinv) (a : Fin 5) (b : Fin 384) (l : Fin 2560) :
    ((w (ix3 a b l) : EReal) - Cert.Solve.qval codes cb a b l) = ((Cert.Solve.resid w codes cb a b l.val : ℝ) : EReal) := by
  obtain ⟨x, hx⟩ := hr.w_fin (ix3 a b l)
  obtain ⟨y, hy⟩ : ∃ y : ℝ, Cert.Solve.qval codes cb a b l = (y : EReal) := hr.cb_fin _
  unfold Cert.Solve.resid
  rw [dif_pos l.isLt]
  have e : (⟨l.val, l.isLt⟩ : Fin 2560) = l := rfl
  rw [e, hx, hy]
  rfl

theorem entry_apply (w : FVec Ideal S5x384x2560 .bf16) (codes : IVec S5x384x1280 8) (cb : IVec S5x20x256x2 16) (hinv : FVec Ideal S2560x2560 .f32)
    (hr : Real w codes cb hinv) (r : Fin 1920) (l : Fin 2560) :
    (shapeCast S1920x2560 (subf (extf .f32 w bitsLt_bf16_f32) (extf .f32 (qref codes cb) bitsLt_bf16_f32) : FVec Ideal S5x384x2560 .f32)
      shapeCasts_S5x384x2560_S1920x2560 : FVec Ideal S1920x2560 .f32) (ix2 r l) = ((state (rowR w codes cb r) (Cert.Solve.umat hinv) 0 l.val : ℝ) : EReal) := by
  refine (cast_rows' _ r l).trans ?_
  have h := resid_apply w codes cb hinv hr (⟨r.val / 384, by omega⟩ : Fin 5) (⟨r.val % 384, by omega⟩ : Fin 384) l
  rw [← qref_apply] at h
  exact h

variable (hr : Real (m ((c.tc : Thread nD τ).loc main_arg0)) (m ((c.tc : Thread nD τ).loc main_arg1)) (m ((c.tc : Thread nD τ).loc main_arg2)) (m ((c.tc : Thread nD τ).loc main_arg3)))

include hr in
theorem entry_state (r : Fin 1920) (l : Fin 2560) :
    (entryContents (preI (F := Ideal)) m c (Proc.devRef .tc main_v37_5) : FVec Ideal S1920x2560 .f32) (ix2 r l)
      = ((state (rowR (m ((c.tc : Thread nD τ).loc main_arg0)) (m ((c.tc : Thread nD τ).loc main_arg1)) (m ((c.tc : Thread nD τ).loc main_arg2)) r)
          (Cert.Solve.umat (m ((c.tc : Thread nD τ).loc main_arg3))) 0 l.val : ℝ) : EReal) := by
  rw [entry_r]
  exact entry_apply _ _ _ _ hr r l

include hr in
theorem umat_apply (i l : Fin 2560) (hil : i ≤ l) :
    ((m ((c.tc : Thread nD τ).loc main_arg3) : FVec Ideal S2560x2560 .f32) (ix2 i l) : EReal) = ((Cert.Solve.umat (m ((c.tc : Thread nD τ).loc main_arg3)) i.val l.val : ℝ) : EReal) := by
  obtain ⟨x, hx⟩ := hr.h_fin i l hil
  unfold Cert.Solve.umat
  rw [dif_pos ⟨i.isLt, l.isLt⟩]
  exact hx.trans (congrArg _ (congrArg EReal.toReal hx).symm)

include hr in
theorem umat_diag (i : ℕ) (hi : i < 2560) : Cert.Solve.umat (m ((c.tc : Thread nD τ).loc main_arg3)) i i ≠ 0 := by
  intro h0
  have h := umat_apply m c hr ⟨i, hi⟩ ⟨i, hi⟩ le_rfl
  rw [h0] at h
  exact hr.h_diag ⟨i, hi⟩ h

include hr in
/-- After `k` trips. -/
theorem loop_state (k : ℕ) (hk : k ≤ 2560) :
    (STEP^[k] (entryContents (preI (F := Ideal)) m c)) (Proc.devRef .tc main_v37_4) = constantI S_ 32 (BitVec.ofNat 32 k)
    ∧ (STEP^[k] (entryContents (preI (F := Ideal)) m c)) (Proc.devRef .tc main_v37_2) = iotaInDim S1x2560 32 1
    ∧ (STEP^[k] (entryContents (preI (F := Ideal)) m c)) (Proc.devRef .tc main_v37_1) = m ((c.tc : Thread nD τ).loc main_arg3)
    ∧ ∀ (r : Fin 1920) (l : Fin 2560), ((STEP^[k] (entryContents (preI (F := Ideal)) m c)) (Proc.devRef .tc main_v37_5) : FVec Ideal S1920x2560 .f32) (ix2 r l)
      = ((state (rowR (m ((c.tc : Thread nD τ).loc main_arg0)) (m ((c.tc : Thread nD τ).loc main_arg1)) (m ((c.tc : Thread nD τ).loc main_arg2)) r)
          (Cert.Solve.umat (m ((c.tc : Thread nD τ).loc main_arg3))) k l.val : ℝ) : EReal) := by
  induction k with
  | zero => exact ⟨entry_k m c, entry_iota m c, entry_u m c, entry_state m c hr⟩
  | succ k ih =>
    obtain ⟨h4, h2, h1, h5⟩ := ih (by omega)
    rw [Function.iterate_succ_apply']
    generalize STEP^[k] (entryContents (preI (F := Ideal)) m c) = V at h4 h2 h1 h5
    refine ⟨?_, ?_, ?_, fun r l => ?_⟩
    · rw [STEP_main_v37_4]
      unfold step_main_v37_4
      rw [h4]
      funext i
      show BitVec.ofNat 32 k + 1#32 = BitVec.ofNat 32 (k + 1)
      rw [BitVec.ofNat_add]
    · rw [STEP_main_v37_2, h2]
    · rw [STEP_main_v37_1, h1]
    · rw [STEP_main_v37_5]
      exact step_state V k (by omega) h4 _ _ h2 (fun i l hil => by rw [h1]; exact umat_apply m c hr i l hil) (umat_diag m c hr) h5 r l

theorem final_keep (b : Ref sig .tc) (h1 : b ∉ (condOps_W ++ (while0Ops0_W ++ (while0Ops0_1_W ++ (while0Ops0_2_W ++ (while0Ops0_3_W ++ (while0Ops0_4_W ++ hostOps0_3_W))))))) :
    finalContents condOps (preI (F := Ideal)) bodyI postI 2560 m c (Proc.devRef .tc b) = entryContents (preI (F := Ideal)) m c (Proc.devRef .tc b) := by
  simp only [List.mem_append, not_or] at h1
  obtain ⟨hc, w0, w1, w2, w3, w4, hp⟩ := h1
  have ht : ∀ k, atTrip condOps bodyI (entryContents (preI (F := Ideal)) m) k c (Proc.devRef .tc b) = entryContents (preI (F := Ideal)) m c (Proc.devRef .tc b) := by
    intro k
    induction k with
    | zero => rfl
    | succ k ih =>
      rw [← ih]
      show afterL bodyI (after condOps (atTrip condOps bodyI (entryContents preI m) k c)) _ = _
      simp only [afterL_cons, afterL_nil]
      rw [after_of_writes_sub while0Ops0_4 _ while0Ops0_4_writes w4, after_of_writes_sub while0Ops0_3 _ while0Ops0_3_writes w3,
        after_of_writes_sub while0Ops0_2 _ while0Ops0_2_writes w2, after_of_writes_sub while0Ops0_1 _ while0Ops0_1_writes w1,
        after_of_writes_sub while0Ops0 _ while0Ops0_writes w0, after_of_writes_sub condOps _ condOps_writes hc]
  show afterL postI (after condOps _) _ = _
  simp only [afterL_cons, afterL_nil]
  rw [after_of_writes_sub hostOps0_3 _ hostOps0_3_writes hp, after_of_writes_sub condOps _ condOps_writes hc, ht]
  rfl

theorem entry_keep (b : Ref sig .tc) (h1 : b ∉ (hostOps0_W ++ (hostOps0_1_W ++ hostOps0_2_W))) :
    entryContents (preI (F := Ideal)) m c (Proc.devRef .tc b) = m ((c.tc : Thread nD τ).loc b) := by
  simp only [List.mem_append, not_or] at h1
  simp only [entryContents, afterL_cons, afterL_nil]
  rw [after_of_writes_sub hostOps0_2 _ hostOps0_2_writes h1.2.2, after_of_writes_sub hostOps0_1 _ hostOps0_1_writes h1.2.1,
    after_of_writes_sub hostOps0 _ hostOps0_writes h1.1]

theorem final_q : finalContents condOps (preI (F := Ideal)) bodyI postI 2560 m c (Proc.devRef .tc main_v31)
    = Cert.Solve.qarr (m ((c.tc : Thread nD τ).loc main_arg1)) (m ((c.tc : Thread nD τ).loc main_arg2)) := by
  rw [final_keep m c main_v31 (by decide +kernel), entry_q]
  funext i
  obtain ⟨a, b, d, rfl⟩ : ∃ a b d, i = ix3 a b d := ⟨i 0, i 1, i 2, eq_ix3 i⟩
  exact qref_apply _ _ a b d

include hr in
theorem final_err : finalContents condOps (preI (F := Ideal)) bodyI postI 2560 m c (Proc.devRef .tc main_v38)
    = Cert.Solve.errarr (m ((c.tc : Thread nD τ).loc main_arg0)) (m ((c.tc : Thread nD τ).loc main_arg1)) (m ((c.tc : Thread nD τ).loc main_arg2)) (m ((c.tc : Thread nD τ).loc main_arg3)) := by
  have hl := (loop_state m c hr 2560 le_rfl).2.2.2
  have e : finalContents condOps (preI (F := Ideal)) bodyI postI 2560 m c (Proc.devRef .tc main_v38)
      = (shapeCast S5x384x2560 (STEP^[2560] (entryContents (preI (F := Ideal)) m c) (Proc.devRef .tc main_v37_5) : FVec Ideal S1920x2560 .f32) shapeCasts_S1920x2560_S5x384x2560 : FVec Ideal S5x384x2560 .f32) := by
    rw [← atK_agree m c 2560 main_v37_5 (by decide)]
    show after hostOps0_3 (after condOps (atK m 2560 c)) (Proc.devRef .tc main_v38) = _
    rw [← after_of_writes_sub (r := main_v37_5) condOps (atK m 2560 c) condOps_writes (by decide +kernel)]
    generalize after condOps (atK m 2560 c) = V
    after_reads_simp
    rfl
  rw [e]
  funext i
  obtain ⟨a, b, d, rfl⟩ : ∃ a b d, i = ix3 a b d := ⟨i 0, i 1, i 2, eq_ix3 i⟩
  refine (cast_back _ a b d).trans ((hl _ d).trans ?_)
  rw [state_done _ _ _ _ d.isLt]
  unfold Cert.Solve.errarr Cert.Solve.errval rowR
  have e1 : (⟨(384 * a.val + b.val) / 384, by omega⟩ : Fin 5) = a := Fin.ext (by show (384 * a.val + b.val) / 384 = a.val; omega)
  have e2 : (⟨(384 * a.val + b.val) % 384, by omega⟩ : Fin 384) = b := Fin.ext (by show (384 * a.val + b.val) % 384 = b.val; omega)
  simp only [e1, e2, ix3_0, ix3_1, ix3_2]

end Cert.ReferenceIdeal.Value

end
-- ==== Proof.FromPre.lean ====
/-
  What the precondition gives, as the two sides' value proofs use it; and the precondition's own side conditions.
-/
module

public import proofs.«01_k».proof.Proof.KBlock
public import proofs.«01_k».proof.Proof.PreRead
public import proofs.«01_k».proof.Proof.RefValue

@[expose] public section

set_option synthInstance.maxSize 4096
set_option maxRecDepth 100000

noncomputable section

namespace Cert.FromPre

open Idealize.ShloMosaic Cert.KernelIdeal.Solve

variable (w : FVec Ideal ⟨3, ![5, 384, 2560]⟩ .bf16) (codes : IVec ⟨3, ![5, 384, 1280]⟩ 8) (cb : IVec ⟨4, ![5, 20, 256, 2]⟩ 16)
  (hinv : FVec Ideal ⟨2, ![2560, 2560]⟩ .f32) (v : FVec Ideal ⟨3, ![10, 256, 256]⟩ .f32)

/-- The inverses, as reals. -/
def vreal : ℕ → ℕ → ℕ → ℝ := fun j c d =>
  if h : j < 10 ∧ c < 256 ∧ d < 256 then EReal.toReal (v (ix3 (⟨j, h.1⟩ : Fin 10) (⟨c, h.2.1⟩ : Fin 256) (⟨d, h.2.2⟩ : Fin 256))) else 0

variable [Cert.Pre_regular_with_inverses.Facts] (hp : Cert.Pre_regular_with_inverses.Reads w cb hinv v)
include hp

theorem real : Cert.ReferenceIdeal.Value.Real w codes cb hinv where
  w_fin := hp.w_fin
  cb_fin := hp.cb_fin
  h_fin := hp.h_fin
  h_diag := hp.h_diag

theorem u_apply (i l : Fin 2560) (hil : i ≤ l) : (hinv (ix2 i l) : EReal) = ((Cert.Solve.umat hinv i.val l.val : ℝ) : EReal) := by
  obtain ⟨x, hx⟩ := hp.h_fin i l hil
  unfold Cert.Solve.umat
  rw [dif_pos ⟨i.isLt, l.isLt⟩]
  exact hx.trans (congrArg _ (congrArg EReal.toReal hx).symm)

theorem v_apply (j : Fin 10) (c d : Fin 256) : (v (ix3 j c d) : EReal) = ((vreal v j.val c.val d.val : ℝ) : EReal) := by
  obtain ⟨x, hx⟩ := hp.v_fin (ix3 j c d)
  unfold vreal
  rw [dif_pos ⟨j.isLt, c.isLt, d.isLt⟩]
  exact hx.trans (congrArg _ (congrArg EReal.toReal hx).symm)

theorem reals : Reals w codes cb hinv v (vreal v) where
  hw := Cert.ReferenceIdeal.Value.resid_apply w codes cb hinv (real w codes cb hinv v hp)
  hu := u_apply w cb hinv v hp
  hd l hl := by
    intro h0
    have h := u_apply w cb hinv v hp ⟨l, hl⟩ ⟨l, hl⟩ le_rfl
    rw [h0] at h
    exact hp.h_diag ⟨l, hl⟩ h
  hv := v_apply w cb hinv v hp
  hV j hj i d hi hd := by
    have h := hp.inv ⟨j, hj⟩ ⟨i, hi⟩ ⟨d, hd⟩
    rw [coe_sum _ (fun c => (if i ≤ c then Cert.Solve.umat hinv (256 * j + i) (256 * j + c) else 0) * vreal v j c d) (fun c => by
      rw [EReal.coe_mul, v_apply w cb hinv v hp]
      refine congrArg (fun z : EReal => z * _) ?_
      by_cases hic : i ≤ c.val
      · rw [if_pos hic, if_pos (show (⟨i, hi⟩ : Fin 256) ≤ c from hic)]
        exact u_apply w cb hinv v hp _ _ (show 256 * j + i ≤ 256 * j + c.val by omega)
      · rw [if_neg hic, if_neg (show ¬ (⟨i, hi⟩ : Fin 256) ≤ c from hic), EReal.coe_zero])] at h
    by_cases hid : i = d
    · rw [if_pos hid]
      rw [if_pos (Fin.ext hid)] at h
      exact_mod_cast h
    · rw [if_neg hid]
      rw [if_neg (fun e => hid (congrArg Fin.val e))] at h
      exact_mod_cast h

end Cert.FromPre

namespace Cert.Pre_regular_with_inverses

open Idealize.ShloMosaic

theorem facts : Facts := by
  constructor <;> decide +kernel

end Cert.Pre_regular_with_inverses

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.KernelValue
public import proofs.«01_k».proof.Proof.FromPre
public import Idealize.ShloMosaic.Lib.Quiescent
public import Idealize.ShloMosaic.Adequacy
public import Idealize.ShloMosaic.Init

@[expose] public section

set_option maxRecDepth 100000

noncomputable section

namespace Cert.Proof

open Idealize.ShloMosaic Idealize.SL.Sem Cert.Kernel

/-- The reference runs, and keeps its arguments. -/
theorem refFrame (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0) := by
  refine (θ_run _ _ _).mono (fun r h => ⟨fun c => ⟨?_, ?_, ?_, ?_, ?_⟩, sem_eq_zero_of_no_sems (by decide) r.2⟩) (Cert.ReferenceIdeal.Value.run_fold m g)
  · exact (h c Cert.ReferenceIdeal.main_arg0 rfl).trans ((Cert.ReferenceIdeal.Value.final_keep m c _ (by decide +kernel)).trans (Cert.ReferenceIdeal.Value.entry_keep m c _ (by decide +kernel)))
  · exact (h c Cert.ReferenceIdeal.main_arg1 rfl).trans ((Cert.ReferenceIdeal.Value.final_keep m c _ (by decide +kernel)).trans (Cert.ReferenceIdeal.Value.entry_keep m c _ (by decide +kernel)))
  · exact (h c Cert.ReferenceIdeal.main_arg2 rfl).trans ((Cert.ReferenceIdeal.Value.final_keep m c _ (by decide +kernel)).trans (Cert.ReferenceIdeal.Value.entry_keep m c _ (by decide +kernel)))
  · exact (h c Cert.ReferenceIdeal.main_arg3 rfl).trans ((Cert.ReferenceIdeal.Value.final_keep m c _ (by decide +kernel)).trans (Cert.ReferenceIdeal.Value.entry_keep m c _ (by decide +kernel)))
  · exact (h c Cert.ReferenceIdeal.main_arg4 rfl).trans ((Cert.ReferenceIdeal.Value.final_keep m c _ (by decide +kernel)).trans (Cert.ReferenceIdeal.Value.entry_keep m c _ (by decide +kernel)))

/-- The two programs have equal results. -/
theorem values : Cert.algebraic_KernelIdeal_ReferenceIdeal_pre_regular_with_inverses (hKernelIdeal := Cert.KernelIdeal.Gen.facts)
    (hReferenceIdeal := Cert.ReferenceIdeal.Gen.facts) (hPre_regular_with_inverses := Cert.Pre_regular_with_inverses.facts) := by
  letI := Cert.Pre_regular_with_inverses.facts
  intro m g m' g' hpre hargs
  have hreads := fun c => Cert.Pre_regular_with_inverses.reads (hpre c)
  refine ⟨fun c => Cert.Solve.qarr (m ((c.tc : Thread Cert.KernelIdeal.nD Cert.KernelIdeal.τ).loc Cert.KernelIdeal.main_arg1)) (m ((c.tc : Thread Cert.KernelIdeal.nD Cert.KernelIdeal.τ).loc Cert.KernelIdeal.main_arg2)),
    fun c => Cert.Solve.errarr (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3)), ?_, ?_⟩
  · refine (θ_run _ _ _).mono (fun r h c => ?_) (Cert.KernelIdeal.Value.run_blocks m g)
    obtain ⟨h5, h6, h⟩ := h c
    exact ⟨h5.trans (Cert.KernelIdeal.Solve.arr_q m c), h6.trans (Cert.KernelIdeal.Solve.arr_err m c _ (Cert.FromPre.reals _ _ _ _ _ (hreads c))), h⟩
  · refine (θ_run _ _ _).mono (fun r h c => ⟨?_, ?_, h.2.1 c⟩) (θ_run_and (Cert.ReferenceIdeal.Value.run_fold m' g') (refFrame m' g'))
    · obtain ⟨a0, a1, a2, a3, a4⟩ := hargs c
      refine (h.1 c Cert.ReferenceIdeal.main_v31 rfl).trans ((Cert.ReferenceIdeal.Value.final_q m' c).trans ?_)
      exact congrArg₂ Cert.Solve.qarr a1 a2
    · obtain ⟨a0, a1, a2, a3, a4⟩ := hargs c
      have hreal := Cert.FromPre.real _ (m ((c.tc : Thread Cert.KernelIdeal.nD Cert.KernelIdeal.τ).loc Cert.KernelIdeal.main_arg1)) _ _ _ (hreads c)
      refine (h.1 c Cert.ReferenceIdeal.main_v38 rfl).trans ((Cert.ReferenceIdeal.Value.final_err m' c (by rw [a0, a1, a2, a3]; exact hreal)).trans ?_)
      rw [a0, a1, a2, a3]

theorem claim : Cert.Claim := ⟨Cert.Kernel.Gen.facts, Cert.KernelIdeal.Gen.facts, Cert.ReferenceIdeal.Gen.facts, Cert.Pre_regular_with_inverses.facts,
  fun m ρ _ => Cert.Kernel.Gen.frame m ρ, fun m ρ _ => Cert.KernelIdeal.Gen.frame m ρ, fun m ρ _ => Cert.KernelIdeal.Gen.frame m ρ,
  fun m ρ _ => refFrame m ρ, fun m ρ _ => refFrame m ρ, trivial, values⟩

end Cert.Proof

end
